-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite_KernelIdeal [hPre_scores_finite_KernelIdeal : Cert.Pre_scores_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite_ReferenceIdeal [hPre_scores_finite_ReferenceIdeal : Cert.Pre_scores_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scores_finite_KernelIdeal [hKernelIdeal : Cert.KernelIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scores_finite_ReferenceIdeal [hReferenceIdeal : Cert.ReferenceIdeal.Facts] [hPre_scores_finite_ReferenceIdeal : Cert.Pre_scores_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_scores_finite_KernelIdeal [hKernelIdeal : Cert.KernelIdeal.Facts] [hReferenceIdeal : Cert.ReferenceIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite_KernelIdeal m →
    (∀ c : Dev Cert.KernelIdeal.nD,
      m ((c.tc : Thread Cert.KernelIdeal.nD Cert.KernelIdeal.τ).loc Cert.KernelIdeal.main_arg0) = Layout.block ⟨3, ![1, 256, 1024]⟩ ⟨3, ![1, 1024, 1024]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 1024]⟩ ⟨3, ![1, 1024, 1024]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v34) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_scores_finite_KernelIdeal : Cert.Pre_scores_finite_KernelIdeal.Facts) (hPre_scores_finite_ReferenceIdeal : Cert.Pre_scores_finite_ReferenceIdeal.Facts),
    quiescent_Kernel (hKernel := hKernel)
    ∧ quiescent_KernelIdeal (hKernelIdeal := hKernelIdeal)
    ∧ quiescent_KernelIdeal_pre_scores_finite_KernelIdeal (hKernelIdeal := hKernelIdeal) (hPre_scores_finite_KernelIdeal := hPre_scores_finite_KernelIdeal)
    ∧ quiescent_ReferenceIdeal (hReferenceIdeal := hReferenceIdeal)
    ∧ quiescent_ReferenceIdeal_pre_scores_finite_ReferenceIdeal (hReferenceIdeal := hReferenceIdeal) (hPre_scores_finite_ReferenceIdeal := hPre_scores_finite_ReferenceIdeal)
    ∧ preserves_Kernel_KernelIdeal
    ∧ algebraic_KernelIdeal_ReferenceIdeal_pre_scores_finite_KernelIdeal (hKernelIdeal := hKernelIdeal) (hReferenceIdeal := hReferenceIdeal) (hPre_scores_finite_KernelIdeal := hPre_scores_finite_KernelIdeal)
-- ==== Pre_scores_finite_KernelIdeal.lean ====
abbrev S1x256x1024 : Shape := ⟨3, ![1, 256, 1024]⟩
abbrev S1024x1024 : Shape := ⟨2, ![1024, 1024]⟩
abbrev S_ : Shape := ⟨0, ![]⟩

class Facts : Prop where
  bcast_S_S1x256x1024 : S_.BroadcastsInDim S1x256x1024 (![] : Fin 0 → Fin S1x256x1024.rank)
  reducesTo_S1x256x1024_S_d0_1_2 : S1x256x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S1x256x1024 .f32) (main_arg1 : FVec F S1024x1024 .f32) (main_arg2 : FVec F S1024x1024 .f32) (main_arg3 : FVec F S1024x1024 .f32) (main_arg4 : FVec F S1024x1024 .f32) : IVec S_ 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_c : IVec S_ 1 := constantI S_ 1 1#1
  let main_v3 : IVec S_ 1 := (fun x v => Host.reduce IntOp.andi x v reducesTo_S1x256x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Pre_scores_finite_ReferenceIdeal.lean ====
abbrev S1x1024x1024 : Shape := ⟨3, ![1, 1024, 1024]⟩
abbrev S1024x4096 : Shape := ⟨2, ![1024, 4096]⟩
abbrev S4096x1024 : Shape := ⟨2, ![4096, 1024]⟩
abbrev S_ : Shape := ⟨0, ![]⟩

class Facts : Prop where
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_

variable [Facts]

def fn {F : FTy → Type} [FloatOps F] (main_arg0 : FVec F S1x1024x1024 .f32) (main_arg1 : FVec F S1024x4096 .f32) (main_arg2 : FVec F S1024x4096 .f32) (main_arg3 : FVec F S1024x4096 .f32) (main_arg4 : FVec F S4096x1024 .f32) : IVec S_ 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_c : IVec S_ 1 := constantI S_ 1 1#1
  let main_v3 : IVec S_ 1 := (fun x v => Host.reduce IntOp.andi x v reducesTo_S1x1024x1024_S_d0_1_2 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S1024x4096 .f32 := Host.absf main_arg2
  let main_cst_2 : FVec F S_ .f32 := constant S_ .f32 0x7F800000#32
  let main_v10 : FVec F S1024x4096 .f32 := broadcastInDim S1024x4096 ![] bcast_S_S1024x4096 main_cst_2
  let main_v11 : IVec S1024x4096 1 := cmpf .olt main_v9 main_v10
  let main_c_3 : IVec S_ 1 := constantI S_ 1 1#1
  let main_v12 : IVec S_ 1 := (fun x v => Host.reduce IntOp.andi x v reducesTo_S1024x4096_S_d0_1 h_S_) main_v11 main_c_3
  let main_v13 : IVec S_ 1 := andi main_v8 main_v12
  main_v13
-- ==== Kernel.lean ====
abbrev S1x256x1024 : Shape := ⟨3, ![1, 256, 1024]⟩
abbrev S1024x1024 : Shape := ⟨2, ![1024, 1024]⟩
abbrev S256x1024 : Shape := ⟨2, ![256, 1024]⟩
abbrev S3x256x1024 : Shape := ⟨3, ![3, 256, 1024]⟩
abbrev S3 : Shape := ⟨1, ![3]⟩
abbrev S_ : Shape := ⟨0, ![]⟩
abbrev S1 : Shape := ⟨1, ![1]⟩
abbrev S256x128 : Shape := ⟨2, ![256, 128]⟩
abbrev S1024x128 : Shape := ⟨2, ![1024, 128]⟩
abbrev S256 : Shape := ⟨1, ![256]⟩
abbrev S256x1 : Shape := ⟨2, ![256, 1]⟩
abbrev S128x1024 : Shape := ⟨2, ![128, 1024]⟩

abbrev nBuf : Space → Nat
  | .hbm => 6
  | .vmem => 12
  | .smem => 0
  | _ => 0

abbrev bufTy : (tb : Table) → Fin (tcTables nBuf tb) → BufTy
  | .hbm, ⟨0, _⟩ => ⟨S1x256x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1x256x1024, .f32⟩
  | .local _ .vmem, ⟨0, _⟩ => ⟨S1x256x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1x256x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S256x1024, .bf16⟩
  | .local _ .vmem, ⟨11, _⟩ => ⟨S3x256x1024, .bf16⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v28 : BitVec 32 := Scalar.muli v2 c256_i32
  let v29 : Index := Scalar.indexCast v28
  let c0_20 : Index := 0#32
  ![v29.toNat, 0]
def k0_off2 (d0 : Dev nD) (c0_i32_22 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_21 : BitVec 32 := 4#32
  let v33 : BitVec 32 := Scalar.addi v2 c4_i32_21
  let v34 : BitVec 32 := Scalar.subi v33 c0_i32_22
  let c4_i32_23 : BitVec 32 := 4#32
  let v35 : BitVec 32 := Scalar.remsi v34 c4_i32_23
  let c256_i32_24 : BitVec 32 := 256#32
  let v36 : BitVec 32 := Scalar.muli v35 c256_i32_24
  let c0_i32_29 : BitVec 32 := 0#32
  ![v36.toNat, 0]
def k0_dev3 (d0 : Dev nD) : Nat :=
  let c0_i32_28 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_27 : BitVec 32 := 1#32
  let v37 : BitVec 32 := Scalar.muli v7 c1_i32_27
  let v38 : BitVec 32 := Scalar.addi c0_i32_28 v37
  v38.toNat
def k0_off3 (d0 : Dev nD) (c0_i32_22 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_21 : BitVec 32 := 4#32
  let v33 : BitVec 32 := Scalar.addi v2 c4_i32_21
  let v34 : BitVec 32 := Scalar.subi v33 c0_i32_22
  let c4_i32_23 : BitVec 32 := 4#32
  let v35 : BitVec 32 := Scalar.remsi v34 c4_i32_23
  let c256_i32_31 : BitVec 32 := 256#32
  let v45 : BitVec 32 := Scalar.muli v35 c256_i32_31
  let v46 : Index := Scalar.indexCast v45
  let c0_32 : Index := 0#32
  ![v46.toNat, 0]
def k0_dev4 (d0 : Dev nD) : Nat :=
  let c0_i32_52 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_51 : BitVec 32 := 1#32
  let v78 : BitVec 32 := Scalar.muli v7 c1_i32_51
  let v79 : BitVec 32 := Scalar.addi c0_i32_52 v78
  v79.toNat
def k0_dev5 (d0 : Dev nD) : Nat :=
  let c0_i32_77 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_76 : BitVec 32 := 1#32
  let v119 : BitVec 32 := Scalar.muli v7 c1_i32_76
  let v120 : BitVec 32 := Scalar.addi c0_i32_77 v119
  v120.toNat
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_95 : BitVec 32 := 1#32
  let v156 : BitVec 32 := Scalar.addi v2 c1_i32_95
  let c4_i32_96 : BitVec 32 := 4#32
  let v157 : BitVec 32 := Scalar.remsi v156 c4_i32_96
  let c256_i32_97 : BitVec 32 := 256#32
  let v158 : BitVec 32 := Scalar.muli v157 c256_i32_97
  let v159 : Index := Scalar.indexCast v158
  let c0_98 : Index := 0#32
  ![v159.toNat, 0]
def k0_off5 (d0 : Dev nD) (c1_i32_107 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_106 : BitVec 32 := 4#32
  let v181 : BitVec 32 := Scalar.addi v2 c4_i32_106
  let v182 : BitVec 32 := Scalar.subi v181 c1_i32_107
  let c4_i32_108 : BitVec 32 := 4#32
  let v183 : BitVec 32 := Scalar.remsi v182 c4_i32_108
  let c256_i32_109 : BitVec 32 := 256#32
  let v184 : BitVec 32 := Scalar.muli v183 c256_i32_109
  let v185 : Index := Scalar.indexCast v184
  let c0_110 : Index := 0#32
  ![v185.toNat, 0]
def k0_off6 (d0 : Dev nD) (c1_i32_107 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_106 : BitVec 32 := 4#32
  let v181 : BitVec 32 := Scalar.addi v2 c4_i32_106
  let v182 : BitVec 32 := Scalar.subi v181 c1_i32_107
  let c4_i32_108 : BitVec 32 := 4#32
  let v183 : BitVec 32 := Scalar.remsi v182 c4_i32_108
  let c256_i32_109 : BitVec 32 := 256#32
  let v184 : BitVec 32 := Scalar.muli v183 c256_i32_109
  let v202 : Index := Scalar.indexCast v184
  let c128 : Index := 128#32
  ![v202.toNat, 128]
def k0_off7 (d0 : Dev nD) (c1_i32_107 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_106 : BitVec 32 := 4#32
  let v181 : BitVec 32 := Scalar.addi v2 c4_i32_106
  let v182 : BitVec 32 := Scalar.subi v181 c1_i32_107
  let c4_i32_108 : BitVec 32 := 4#32
  let v183 : BitVec 32 := Scalar.remsi v182 c4_i32_108
  let c256_i32_109 : BitVec 32 := 256#32
  let v184 : BitVec 32 := Scalar.muli v183 c256_i32_109
  let v220 : Index := Scalar.indexCast v184
  let c256 : Index := 256#32
  ![v220.toNat, 256]
def k0_off8 (d0 : Dev nD) (c1_i32_107 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_106 : BitVec 32 := 4#32
  let v181 : BitVec 32 := Scalar.addi v2 c4_i32_106
  let v182 : BitVec 32 := Scalar.subi v181 c1_i32_107
  let c4_i32_108 : BitVec 32 := 4#32
  let v183 : BitVec 32 := Scalar.remsi v182 c4_i32_108
  let c256_i32_109 : BitVec 32 := 256#32
  let v184 : BitVec 32 := Scalar.muli v183 c256_i32_109
  let v238 : Index := Scalar.indexCast v184
  let c384 : Index := 384#32
  ![v238.toNat, 384]
def k0_off9 (d0 : Dev nD) (c1_i32_107 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_106 : BitVec 32 := 4#32
  let v181 : BitVec 32 := Scalar.addi v2 c4_i32_106
  let v182 : BitVec 32 := Scalar.subi v181 c1_i32_107
  let c4_i32_108 : BitVec 32 := 4#32
  let v183 : BitVec 32 := Scalar.remsi v182 c4_i32_108
  let c256_i32_109 : BitVec 32 := 256#32
  let v184 : BitVec 32 := Scalar.muli v183 c256_i32_109
  let v256 : Index := Scalar.indexCast v184
  let c512 : Index := 512#32
  ![v256.toNat, 512]
def k0_off10 (d0 : Dev nD) (c1_i32_107 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_106 : BitVec 32 := 4#32
  let v181 : BitVec 32 := Scalar.addi v2 c4_i32_106
  let v182 : BitVec 32 := Scalar.subi v181 c1_i32_107
  let c4_i32_108 : BitVec 32 := 4#32
  let v183 : BitVec 32 := Scalar.remsi v182 c4_i32_108
  let c256_i32_109 : BitVec 32 := 256#32
  let v184 : BitVec 32 := Scalar.muli v183 c256_i32_109
  let v274 : Index := Scalar.indexCast v184
  let c640 : Index := 640#32
  ![v274.toNat, 640]
def k0_off11 (d0 : Dev nD) (c1_i32_107 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_106 : BitVec 32 := 4#32
  let v181 : BitVec 32 := Scalar.addi v2 c4_i32_106
  let v182 : BitVec 32 := Scalar.subi v181 c1_i32_107
  let c4_i32_108 : BitVec 32 := 4#32
  let v183 : BitVec 32 := Scalar.remsi v182 c4_i32_108
  let c256_i32_109 : BitVec 32 := 256#32
  let v184 : BitVec 32 := Scalar.muli v183 c256_i32_109
  let v292 : Index := Scalar.indexCast v184
  let c768 : Index := 768#32
  ![v292.toNat, 768]
def k0_off12 (d0 : Dev nD) (c1_i32_107 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_106 : BitVec 32 := 4#32
  let v181 : BitVec 32 := Scalar.addi v2 c4_i32_106
  let v182 : BitVec 32 := Scalar.subi v181 c1_i32_107
  let c4_i32_108 : BitVec 32 := 4#32
  let v183 : BitVec 32 := Scalar.remsi v182 c4_i32_108
  let c256_i32_109 : BitVec 32 := 256#32
  let v184 : BitVec 32 := Scalar.muli v183 c256_i32_109
  let v310 : Index := Scalar.indexCast v184
  let c896 : Index := 896#32
  ![v310.toNat, 896]
def k0_dev6 (d0 : Dev nD) : Nat :=
  let c0_i32_189 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_188 : BitVec 32 := 1#32
  let v332 : BitVec 32 := Scalar.muli v7 c1_i32_188
  let v333 : BitVec 32 := Scalar.addi c0_i32_189 v332
  v333.toNat
def k0_dev7 (d0 : Dev nD) : Nat :=
  let c0_i32_294 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_293 : BitVec 32 := 1#32
  let v501 : BitVec 32 := Scalar.muli v7 c1_i32_293
  let v502 : BitVec 32 := Scalar.addi c0_i32_294 v501
  v502.toNat
def k0_dev8 (d0 : Dev nD) : Nat :=
  let c0_i32_402 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_401 : BitVec 32 := 1#32
  let v674 : BitVec 32 := Scalar.muli v7 c1_i32_401
  let v675 : BitVec 32 := Scalar.addi c0_i32_402 v674
  v675.toNat
def k0_off13 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_407 : BitVec 32 := 256#32
  let v684 : BitVec 32 := Scalar.muli v2 c256_i32_407
  let v685 : Index := Scalar.indexCast v684
  let c0_408 : Index := 0#32
  ![v685.toNat, 0]
def k0_off14 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_407 : BitVec 32 := 256#32
  let v684 : BitVec 32 := Scalar.muli v2 c256_i32_407
  let v702 : Index := Scalar.indexCast v684
  let c128_418 : Index := 128#32
  ![v702.toNat, 128]
def k0_off15 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_407 : BitVec 32 := 256#32
  let v684 : BitVec 32 := Scalar.muli v2 c256_i32_407
  let v720 : Index := Scalar.indexCast v684
  let c256_428 : Index := 256#32
  ![v720.toNat, 256]
def k0_off16 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_407 : BitVec 32 := 256#32
  let v684 : BitVec 32 := Scalar.muli v2 c256_i32_407
  let v738 : Index := Scalar.indexCast v684
  let c384_438 : Index := 384#32
  ![v738.toNat, 384]
def k0_off17 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_407 : BitVec 32 := 256#32
  let v684 : BitVec 32 := Scalar.muli v2 c256_i32_407
  let v756 : Index := Scalar.indexCast v684
  let c512_448 : Index := 512#32
  ![v756.toNat, 512]
def k0_off18 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_407 : BitVec 32 := 256#32
  let v684 : BitVec 32 := Scalar.muli v2 c256_i32_407
  let v774 : Index := Scalar.indexCast v684
  let c640_458 : Index := 640#32
  ![v774.toNat, 640]
def k0_off19 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_407 : BitVec 32 := 256#32
  let v684 : BitVec 32 := Scalar.muli v2 c256_i32_407
  let v792 : Index := Scalar.indexCast v684
  let c768_468 : Index := 768#32
  ![v792.toNat, 768]
def k0_off20 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_407 : BitVec 32 := 256#32
  let v684 : BitVec 32 := Scalar.muli v2 c256_i32_407
  let v810 : Index := Scalar.indexCast v684
  let c896_478 : Index := 896#32
  ![v810.toNat, 896]
abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1x1024x1024 : Shape := ⟨3, ![1, 1024, 1024]⟩
abbrev S1024x4096 : Shape := ⟨2, ![1024, 4096]⟩
abbrev S4096x1024 : Shape := ⟨2, ![4096, 1024]⟩
abbrev S1x1024x4096 : Shape := ⟨3, ![1, 1024, 4096]⟩
abbrev S1x1024x32x128 : Shape := ⟨4, ![1, 1024, 32, 128]⟩
abbrev S_ : Shape := ⟨0, ![]⟩
abbrev S1x32x1024x1 : Shape := ⟨4, ![1, 32, 1024, 1]⟩
abbrev S1x32x1024x1024 : Shape := ⟨4, ![1, 32, 1024, 1024]⟩
abbrev S1x32x1024 : Shape := ⟨3, ![1, 32, 1024]⟩
abbrev S1x1024x32x1 : Shape := ⟨4, ![1, 1024, 32, 1]⟩
abbrev S1x32x128x1024 : Shape := ⟨4, ![1, 32, 128, 1024]⟩

abbrev nBuf : Space → Nat
  | .hbm => 46
  | .vmem => 0
  | .smem => 0
  | _ => 0

abbrev bufTy : (tb : Table) → Fin (tcTables nBuf tb) → BufTy
  | .hbm, ⟨0, _⟩ => ⟨S1x1024x1024, .f32⟩
  | .hbm, ⟨1, _⟩ => ⟨S1024x4096, .f32⟩
  | .hbm, ⟨2, _⟩ => ⟨S1024x4096, .f32⟩
  | .hbm, ⟨3, _⟩ => ⟨S1024x4096, .f32⟩
  | .hbm, ⟨4, _⟩ => ⟨S4096x1024, .f32⟩
  | .hbm, ⟨5, _⟩ => ⟨S1x1024x4096, .f32⟩
  | .hbm, ⟨6, _⟩ => ⟨S1x1024x32x128, .f32⟩
  | .hbm, ⟨7, _⟩ => ⟨S1x1024x4096, .f32⟩
  | .hbm, ⟨8, _⟩ => ⟨S1x1024x32x128, .f32⟩
  | .hbm, ⟨9, _⟩ => ⟨S1x1024x4096, .f32⟩
  | .hbm, ⟨10, _⟩ => ⟨S1x1024x32x128, .f32⟩
  | .hbm, ⟨11, _⟩ => ⟨S_, .f32⟩
  | .hbm, ⟨12, _⟩ => ⟨S1x1024x32x128, .f32⟩
  | .hbm, ⟨13, _⟩ => ⟨S_, .f32⟩
  | .hbm, ⟨14, _⟩ => ⟨S1x32x1024x1, .f32⟩
  | .hbm, ⟨15, _⟩ => ⟨S_, .f32⟩
  | .hbm, ⟨16, _⟩ => ⟨S1x32x1024x1, .f32⟩
  | .hbm, ⟨17, _⟩ => ⟨S1x32x1024x1024, .f32⟩
  | .hbm, ⟨18, _⟩ => ⟨S_, .f32⟩
  | .hbm, ⟨19, _⟩ => ⟨S1x32x1024x1024, .f32⟩
  | .hbm, ⟨20, _⟩ => ⟨S1x32x1024x1024, .f32⟩
  | .hbm, ⟨21, _⟩ => ⟨S_, .f32⟩
  | .hbm, ⟨22, _⟩ => ⟨S1x32x1024, .f32⟩
  | .hbm, ⟨23, _⟩ => ⟨S1x32x1024x1, .f32⟩
  | .hbm, ⟨24, _⟩ => ⟨S1x32x1024x1, .f32⟩
  | .hbm, ⟨25, _⟩ => ⟨S1x32x1024x1, .f32⟩
  | .hbm, ⟨26, _⟩ => ⟨S1x32x1024x1, .f32⟩
  | .hbm, ⟨27, _⟩ => ⟨S1x32x1024x1024, .f32⟩
  | .hbm, ⟨28, _⟩ => ⟨S1x32x1024x1024, .f32⟩
  | .hbm, ⟨29, _⟩ => ⟨S1x32x1024x1024, .f32⟩
  | .hbm, ⟨30, _⟩ => ⟨S1x32x1024x1, .f32⟩
  | .hbm, ⟨31, _⟩ => ⟨S_, .f32⟩
  | .hbm, ⟨32, _⟩ => ⟨S1x32x1024, .f32⟩
  | .hbm, ⟨33, _⟩ => ⟨S1x32x1024x1, .f32⟩
  | .hbm, ⟨34, _⟩ => ⟨S1x32x1024x1, .f32⟩
  | .hbm, ⟨35, _⟩ => ⟨S1x1024x32x1, .f32⟩
  | .hbm, ⟨36, _⟩ => ⟨S1x1024x32x128, .f32⟩
  | .hbm, ⟨37, _⟩ => ⟨S1x1024x32x128, .f32⟩
  | .hbm, ⟨38, _⟩ => ⟨S1x32x128x1024, .f32⟩
  | .hbm, ⟨39, _⟩ => ⟨S1x1024x32x128, .f32⟩
  | .hbm, ⟨40, _⟩ => ⟨S1x1024x32x128, .f32⟩
  | .hbm, ⟨41, _⟩ => ⟨S1x1024x32x1, .f32⟩
  | .hbm, ⟨42, _⟩ => ⟨S1x1024x32x128, .f32⟩
  | .hbm, ⟨43, _⟩ => ⟨S1x1024x32x128, .f32⟩
  | .hbm, ⟨44, _⟩ => ⟨S1x1024x4096, .f32⟩
  | .hbm, ⟨45, _⟩ => ⟨S1x1024x1024, .f32⟩
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Proof.Attend.lean ====
/-
  Softmax attention over the extended reals, twice: with the exponentials of the scores themselves and one reciprocal
  of their sum, and with the exponentials of the scores less a real and a division. On real scores the two agree,
  whatever the values weighted are.
-/
module

public import Idealize.ShloMosaic.PureOps
public import Idealize.ShloMosaic.Lib.IdealHost
public import Idealize.ShloMosaic.Lib.Pointwise.Sums

@[expose] public section

noncomputable section

namespace Cert.Attend

open Idealize.ShloMosaic

/-- An extended real that is a real number. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

theorem IsReal.sum {ι : Type} (S : Finset ι) (f : ι → EReal) (h : ∀ i, IsReal (f i)) : IsReal (∑ i ∈ S, f i) := by
  choose g hg using h
  exact ⟨∑ i ∈ S, g i, by rw [coe_sum]; exact Finset.sum_congr rfl fun i _ => hg i⟩

/-- A nonnegative real factor goes into a sum of extended reals. -/
theorem mul_sum {ι : Type} (S : Finset ι) (f : ι → EReal) (a : ℝ) (ha : 0 ≤ a) :
    (a : EReal) * ∑ i ∈ S, f i = ∑ i ∈ S, (a : EReal) * f i := by
  classical
  induction S using Finset.induction_on with
  | empty => simp
  | insert b S hb ih =>
    rw [Finset.sum_insert hb, Finset.sum_insert hb, ← ih]
    exact EReal.left_distrib_of_nonneg_of_ne_top (by exact_mod_cast ha) (EReal.coe_ne_top a) _ _

/-- A maximum of reals that starts at `⊥` is a real. -/
theorem fold_max_real {n : ℕ} (f : Fin (n + 1) → EReal) (h : ∀ i, IsReal (f i)) : IsReal (Finset.fold max ⊥ f Finset.univ) := by
  classical
  have key : ∀ S : Finset (Fin (n + 1)), (S = ∅ → Finset.fold max ⊥ f S = ⊥) ∧ (S.Nonempty → IsReal (Finset.fold max ⊥ f S)) := by
    intro S
    induction S using Finset.induction_on with
    | empty => exact ⟨fun _ => by simp, fun h => absurd h (by simp)⟩
    | insert a S ha ih =>
      refine ⟨fun h => absurd h (Finset.insert_ne_empty a S), fun _ => ?_⟩
      rw [Finset.fold_insert ha]
      rcases S.eq_empty_or_nonempty with hS | hS
      · rw [ih.1 hS, max_eq_left bot_le]; exact h a
      · rcases max_choice (f a) (Finset.fold max ⊥ f S) with e | e <;> rw [e]
        · exact h a
        · exact ih.2 hS
  exact (key Finset.univ).2 Finset.univ_nonempty

/-- The two forms of one row of attention agree on real scores. -/
theorem row_eq {n : ℕ} (s : Fin (n + 1) → EReal) (hs : ∀ j, IsReal (s j)) (M : EReal) (hM : IsReal M) (v : Fin (n + 1) → EReal)
    (a b : EReal) :
    (∑ j, Ideal.exp (s j) * v j) * Ideal.div 1 (∑ j, Ideal.exp (s j))
      = Ideal.div (0 * a + ∑ j, v j * Ideal.exp (s j - M)) (0 * b + ∑ j, Ideal.exp (s j - M)) := by
  choose t ht using hs
  obtain ⟨M, rfl⟩ := hM
  have hP : 0 < ∑ j, Real.exp (t j - M) := Finset.sum_pos (fun j _ => Real.exp_pos _) Finset.univ_nonempty
  have hE : 0 < Real.exp M := Real.exp_pos M
  have e1 : ∀ j, Ideal.exp (s j) = ((Real.exp M : ℝ) : EReal) * ((Real.exp (t j - M) : ℝ) : EReal) := fun j => by
    rw [ht, Ideal.exp_coe, ← EReal.coe_mul, ← Real.exp_add, add_sub_cancel]
  have e2 : ∀ j, Ideal.exp (s j - (M : EReal)) = ((Real.exp (t j - M) : ℝ) : EReal) := fun j => by
    rw [ht, ← EReal.coe_sub, Ideal.exp_coe]
  simp only [e1, e2, zero_mul, zero_add]
  rw [← mul_sum _ _ _ hE.le, ← coe_sum, ← EReal.coe_mul, Ideal.div_coe (mul_pos hE hP).ne', Ideal.div_coe hP.ne', one_mul]
  rw [show (∑ j, ((Real.exp M : ℝ) : EReal) * ((Real.exp (t j - M) : ℝ) : EReal) * v j)
      = ((Real.exp M : ℝ) : EReal) * ∑ j, v j * ((Real.exp (t j - M) : ℝ) : EReal) from by
    rw [mul_sum _ _ _ hE.le]
    exact Finset.sum_congr rfl fun j _ => by rw [mul_assoc, mul_comm (v j)]]
  rw [mul_comm ((Real.exp M : ℝ) : EReal), mul_assoc, ← EReal.coe_mul]
  congr 2
  field_simp

/-- A real factor on each left operand of a product of reals, or on the product. -/
theorem scale_eq {n : ℕ} (q k : Fin n → EReal) (c : EReal) (hq : ∀ e, IsReal (q e)) (hk : ∀ e, IsReal (k e)) (hc : IsReal c) :
    (∑ e, q e * c * k e) = (∑ e, q e * k e) * c := by
  choose q' hq using hq
  choose k' hk using hk
  obtain ⟨c, rfl⟩ := hc
  simp only [hq, hk, ← EReal.coe_mul, ← coe_sum, Finset.sum_mul]
  congr 1
  exact Finset.sum_congr rfl fun e _ => by ring

/-! ## The layer -/

/-- Column `e` of head `h`. -/
def col (h : Fin 32) (e : Fin 128) : Fin 4096 := ⟨128 * h.val + e.val, by omega⟩

section Layer
variable (X : Fin 1024 → Fin 1024 → EReal) (Wq Wk Wv : Fin 1024 → Fin 4096 → EReal) (Wo : Fin 4096 → Fin 1024 → EReal) (c : EReal)

/-- A projection of the activations. -/
def proj (W : Fin 1024 → Fin 4096 → EReal) (i : Fin 1024) (l : Fin 4096) : EReal := ∑ k, X i k * W k l

/-- The score of row `i` and row `j` in head `h`, the queries scaled; -/
def scoreQ (h : Fin 32) (i j : Fin 1024) : EReal := ∑ e, proj X Wq i (col h e) * c * proj X Wk j (col h e)
/-- the same, the product scaled. -/
def scoreP (h : Fin 32) (i j : Fin 1024) : EReal := (∑ e, proj X Wq i (col h e) * proj X Wk j (col h e)) * c

/-- The attention's context with one reciprocal a row; -/
def ctxQ (h : Fin 32) (i : Fin 1024) (e : Fin 128) : EReal :=
  (∑ j, Ideal.exp (scoreQ X Wq Wk c h i j) * proj X Wv j (col h e)) * Ideal.div 1 (∑ j, Ideal.exp (scoreQ X Wq Wk c h i j))

/-- the largest score of a row; -/
def topP (h : Fin 32) (i : Fin 1024) : EReal := max ⊥ (Finset.fold max ⊥ (fun j => scoreP X Wq Wk c h i j) Finset.univ)

/-- the context from the scores less the largest. -/
def ctxP (h : Fin 32) (i : Fin 1024) (e : Fin 128) : EReal :=
  Ideal.div
    (0 * Ideal.exp (⊥ - topP X Wq Wk c h i) + ∑ j, proj X Wv j (col h e) * Ideal.exp (scoreP X Wq Wk c h i j - topP X Wq Wk c h i))
    (0 * Ideal.exp (⊥ - topP X Wq Wk c h i) + ∑ j, Ideal.exp (scoreP X Wq Wk c h i j - topP X Wq Wk c h i))

theorem proj_real (W : Fin 1024 → Fin 4096 → EReal) (hX : ∀ i k, IsReal (X i k)) (hW : ∀ k l, IsReal (W k l)) (i : Fin 1024) (l : Fin 4096) :
    IsReal (proj X W i l) := IsReal.sum _ _ fun k => (hX i k).mul (hW k l)

variable (hX : ∀ i k, IsReal (X i k)) (hq : ∀ k l, IsReal (Wq k l)) (hk : ∀ k l, IsReal (Wk k l)) (hc : IsReal c)
include hX hq hk hc

theorem score_eq (h : Fin 32) (i j : Fin 1024) : scoreQ X Wq Wk c h i j = scoreP X Wq Wk c h i j :=
  scale_eq _ _ _ (fun _ => proj_real X Wq hX hq _ _) (fun _ => proj_real X Wk hX hk _ _) hc

theorem scoreP_real (h : Fin 32) (i j : Fin 1024) : IsReal (scoreP X Wq Wk c h i j) :=
  (IsReal.sum _ _ fun _ => (proj_real X Wq hX hq _ _).mul (proj_real X Wk hX hk _ _)).mul hc

theorem ctx_eq (h : Fin 32) (i : Fin 1024) (e : Fin 128) : ctxQ X Wq Wk Wv c h i e = ctxP X Wq Wk Wv c h i e := by
  unfold ctxQ ctxP
  simp only [score_eq X Wq Wk c hX hq hk hc]
  refine row_eq _ (scoreP_real X Wq Wk c hX hq hk hc h i) _ ?_ _ _ _
  unfold topP
  rw [max_eq_right bot_le]
  exact fold_max_real _ (scoreP_real X Wq Wk c hX hq hk hc h i)

end Layer

/-! ## The output's columns, by device, head and column of the head -/

/-- Head `h` of device `d`. -/
def headOf (d : Fin 4) (h : Fin 8) : Fin 32 := ⟨8 * d.val + h.val, by omega⟩

theorem sum_cols (f : Fin 32 → Fin 128 → EReal) :
    (∑ l : Fin 4096, f ⟨l.val / 128, by omega⟩ ⟨l.val % 128, by omega⟩) = ∑ d : Fin 4, ∑ h : Fin 8, ∑ e : Fin 128, f (headOf d h) e := by
  rw [Fin.sum_univ_tiles 32 128 rfl, Fin.sum_univ_tiles 4 8 rfl]
  refine Finset.sum_congr rfl fun d _ => Finset.sum_congr rfl fun h _ => Finset.sum_congr rfl fun e _ => ?_
  have he := e.isLt
  congr 1
  · apply Fin.ext; show ((d.val * 8 + h.val) * 128 + e.val) / 128 = 8 * d.val + h.val; omega
  · apply Fin.ext; show ((d.val * 8 + h.val) * 128 + e.val) % 128 = e.val; omega

end Cert.Attend

end
-- ==== Proof.Finite.lean ====
/-
  The precondition, read at an index: an absolute value below infinity is a real number's.
-/
module

public import proofs.«01_k».proof.Pre_scores_finite_KernelIdeal
public import proofs.«01_k».proof.Pre_scores_finite_ReferenceIdeal
public import proofs.«01_k».proof.Proof.Attend
public import Idealize.ShloMosaic.Lib.ReduceAll
public import Idealize.ShloMosaic.Lib.Decide

@[expose] public section

set_option maxRecDepth 16384

noncomputable section

namespace Cert.Finite

open Idealize.ShloMosaic Cert.Attend

/-- The side conditions the precondition's operations take, at one device's blocks; -/
theorem facts_blocks : Cert.Pre_scores_finite_KernelIdeal.Facts where
  bcast_S_S1x256x1024 := by decide
  reducesTo_S1x256x1024_S_d0_1_2 := by decide
  h_S_ := by decide
  bcast_S_S1024x1024 := by decide
  reducesTo_S1024x1024_S_d0_1 := by decide

/-- at the whole arrays. -/
theorem facts_whole : Cert.Pre_scores_finite_ReferenceIdeal.Facts where
  bcast_S_S1x1024x1024 := by decide
  reducesTo_S1x1024x1024_S_d0_1_2 := by decide
  h_S_ := by decide
  bcast_S_S1024x4096 := by decide
  reducesTo_S1024x4096_S_d0_1 := by decide

theorem ofBits_inf : Ideal.ofBits .f32 0x7F800000#32 = ⊤ := by simp [Ideal.ofBits, Ideal.ieee]

/-- One entry's comparison. -/
theorem isReal_of_abs_lt {x : EReal} (h : Ideal.cmp .olt (max x (-x)) (Ideal.ofBits .f32 0x7F800000#32) = 1#1) : IsReal x := by
  rw [ofBits_inf] at h
  have h' : max x (-x) < ⊤ := by
    by_contra hn
    simp [Ideal.cmp, hn] at h
  induction x using EReal.rec with
  | bot => exact absurd h' (by simp)
  | top => exact absurd h' (by simp)
  | coe r => exact ⟨r, rfl⟩

open Cert.Pre_scores_finite_KernelIdeal in
/-- The first three arguments' entries are reals. -/
theorem real_of_pre [Cert.Pre_scores_finite_KernelIdeal.Facts] (x : FVec Ideal S1x256x1024 .f32) (wq wk wv wo : FVec Ideal S1024x1024 .f32)
    (h : fn x wq wk wv wo = fun _ => 1#1) : (∀ i, IsReal (x i)) ∧ (∀ i, IsReal (wq i)) ∧ ∀ i, IsReal (wk i) := by
  have h0 := congrFun h (fun a => a.elim0)
  obtain ⟨h1, h3⟩ := IntOp.andi_eq_one.mp h0
  obtain ⟨h1, h2⟩ := IntOp.andi_eq_one.mp h1
  haveI : Subsingleton S_.Idx := ⟨fun a b => funext fun i => i.elim0⟩
  exact ⟨fun i => isReal_of_abs_lt (Host.reduce_andi_all _ _ _ _ _ h1 i),
    fun i => isReal_of_abs_lt (Host.reduce_andi_all _ _ _ _ _ h2 i),
    fun i => isReal_of_abs_lt (Host.reduce_andi_all _ _ _ _ _ h3 i)⟩

end Cert.Finite

end
-- ==== Proof.Own.lean ====
/-
  Rules for loads, stores and remote copies stated over OWNERSHIP of a memref at known values (`owns`): a load
  returns the values owned, a store replaces them, a remote copy hands the source to one cell and the destination,
  at the source's values, to another. The contents of the buffer under a memref never show.
-/
module

public import Idealize.ShloMosaic.Lib.Pipeline.Launch
public import Idealize.ShloMosaic.Lib.Pipeline.Kit
public import Idealize.ShloMosaic.Lib.MemrefSat
public import Idealize.ShloMosaic.Lib.Rounds
public import Idealize.ShloMosaic.Lib.Tactic

@[expose] public section

noncomputable section

namespace Cert.Own

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Ix : Type} [DecidableEq Ix]
variable {Val : EltTy → Type} {Name : Type} [DecidableEq Name]
variable {U : Type} [URA U] {Lvl : Type} {Λ : Labels}

local notation "𝕄" => MT nD τ sig Ix Val Name U Lvl

section Access

variable [Preorder Lvl] {defs : Defs nD τ sig Val Λ} (𝒱 : Variants) (c : Thread nD τ) (bd : Option 𝒱.V)
  {Γ : PendingWaitsCtx sig Ix} (E : Set Name)
variable {s : Shape} {e : EltTy} {α : Type} {Q : α → sProp (MT nD τ sig Ix Val Name U Lvl)}

/-- A load of exactly the slice owned returns the values owned. -/
theorem wp_load_slice {cs : CoreSpace} {m : Memref sig c.2.kind cs s e} {r : Rect s} (hr : ∀ a, r.stride a = 1)
    {hl : m.view.LoadsAt r.toLoadRect} {k : (r.shape.Idx → Val e) → Prog (TpuEff nD τ sig Val Λ c.2) α}
    {q : PosShare TreeShare} {X : r.shape.Idx → Val e} :
    (owns c (m.slice r hr) q X : sProp 𝕄)
      ⊢ iprop((owns c (m.slice r hr) q X -∗ wp frame (wpE' defs 𝒱 c bd Γ) E (k X) Q)
        -∗ wp frame (wpE' defs 𝒱 c bd Γ) E (.op (.load m r.toLoadRect hl) k) Q) := by
  unfold owns
  iintro ⟨%f, %hf, H⟩ Hk
  subst hf
  iapply (wp_load_rect 𝒱 c bd E (m := m) (r := r) (hl := hl) (k := k) (q := q) (f := f) (S := (m.access r).set) (Finset.Subset.refl _)) $$ H
  iintro H
  iapply Hk
  iexists f
  isplitr; · ipureintro; rfl
  iexact H

/-- A load through a rectangle of a memref owned returns the values owned there. -/
theorem wp_load_in {cs : CoreSpace} {m : Memref sig c.2.kind cs s e} {r : Rect s}
    {hl : m.view.LoadsAt r.toLoadRect} {k : (r.shape.Idx → Val e) → Prog (TpuEff nD τ sig Val Λ c.2) α}
    {q : PosShare TreeShare} {X : s.Idx → Val e} :
    (owns c m q X : sProp 𝕄)
      ⊢ iprop((owns c m q X -∗ wp frame (wpE' defs 𝒱 c bd Γ) E (k fun j => X (r.emb j)) Q)
        -∗ wp frame (wpE' defs 𝒱 c bd Γ) E (.op (.load m r.toLoadRect hl) k) Q) := by
  unfold owns
  iintro ⟨%f, %hf, H⟩ Hk
  subst hf
  iapply (wp_load_rect 𝒱 c bd E (m := m) (r := r) (hl := hl) (k := k) (q := q) (f := f) (S := m.view.set) (View.set_slice_subset _ _)) $$ H
  iintro H
  iapply Hk
  iexists f
  isplitr; · ipureintro; rfl
  iexact H

/-- A store of exactly the slice owned replaces the values owned. -/
theorem wp_store_slice {cs : CoreSpace} {m : Memref sig c.2.kind cs s e} {r : Rect s} (hr : ∀ a, r.stride a = 1)
    {w : r.shape.Idx → Val e} {hx : (m.access r).Stores Finset.univ} {hm : (Finset.univ : Finset r.shape.Idx) = Finset.univ ∨ ∀ a, r.stride a = 1}
    {k : PUnit → Prog (TpuEff nD τ sig Val Λ c.2) α} {X : r.shape.Idx → Val e} :
    (owns c (m.slice r hr) fullShare X : sProp 𝕄)
      ⊢ iprop((owns c (m.slice r hr) fullShare w -∗ wp frame (wpE' defs 𝒱 c bd Γ) E (k ⟨⟩) Q)
        -∗ wp frame (wpE' defs 𝒱 c bd Γ) E (.op (.store m r w Finset.univ hx hm) k) Q) := by
  unfold owns
  iintro ⟨%f, %hf, H⟩ Hk
  iapply (wp_store 𝒱 c bd E (m := m) (r := r) (w := w) (hx := hx) (hm := hm) (k := k) (f := f) (Mk := Finset.univ) (S := (m.access r).set) (Finset.Subset.refl _)) $$ H
  iintro H
  iapply Hk
  iexists ((m.access r).write Val f w Finset.univ)
  isplitr; · ipureintro; exact View.read_write_univ f w
  iexact H

/-- Slices of the same sizes at equal offsets are the same slice, whatever their in-bounds evidence. -/
theorem owns_slice_congr {sp : Space} (m : Memref sig c.2.kind sp s e) {off off' size : Fin s.rank → Nat} (h : off = off')
    (p : ∀ i, off i + size i ≤ s.size i) (p' : ∀ i, off' i + size i ≤ s.size i)
    (hr : ∀ a, (Rect.unit (s := s) off size p).stride a = 1) (hr' : ∀ a, (Rect.unit (s := s) off' size p').stride a = 1)
    (q : PosShare TreeShare) (X : (⟨s.rank, size⟩ : Shape).Idx → Val e) :
    (owns c (m.slice (Rect.unit off size p) hr) q X : sProp 𝕄) = owns c (m.slice (Rect.unit off' size p') hr') q X := by
  subst h; rfl

/-- Ownership through a squeezed memref: the values re-indexed. -/
theorem owns_squeeze {sp : Space} (m : Memref sig c.2.kind sp s e) (s' : Shape) (h : s.Squeezes s')
    (q : PosShare TreeShare) (X : s.Idx → Val e) :
    (owns c m q X : sProp 𝕄) ⊢ owns c (m.squeeze s' h) q (fun x => X (Shape.reshapeEquiv h.numel_eq x)) := by
  unfold owns
  iintro ⟨%f, %hf, H⟩
  subst hf
  iexists f
  isplitr; · ipureintro; rfl
  have hs : (m.squeeze s' h).view.set = m.view.set := View.set_reshape _ _
  rw [hs]
  iexact H

/-- And back. -/
theorem owns_unsqueeze {sp : Space} (m : Memref sig c.2.kind sp s e) (s' : Shape) (h : s.Squeezes s')
    (q : PosShare TreeShare) (X : s'.Idx → Val e) :
    (owns c (m.squeeze s' h) q X : sProp 𝕄) ⊢ owns c m q (fun x => X ((Shape.reshapeEquiv h.numel_eq).symm x)) := by
  unfold owns
  iintro ⟨%f, %hf, H⟩
  subst hf
  iexists f
  isplitr
  · ipureintro
    funext x
    show m.view.read Val f x = m.view.read Val f (Shape.reshapeEquiv h.numel_eq ((Shape.reshapeEquiv h.numel_eq).symm x))
    rw [Equiv.apply_symm_apply]
  have hs : (m.squeeze s' h).view.set = m.view.set := View.set_reshape _ _
  rw [hs]
  iexact H

end Access

section Send

variable {D : Type} [DecidableEq D] [Preorder Lvl] {defs : Defs nD τ sig Val Λ} (𝒱 : Variants)
variable (EE : Emb (URounds (GSem nD τ sig) D) (MT nD τ sig Ix Val Name U Lvl)) (Rd : Rounds.Schedule (GSem nD τ sig) D (MT nD τ sig Ix Val Name U Lvl)) [∀ g r d, BI.Storable (upEmb : UEmb _ (MT nD τ sig Ix Val Name U Lvl)) (Rd.payload g r d)]
  (c : Thread nD τ) (bd : Option 𝒱.V) {Γ : PendingWaitsCtx sig Ix}
variable {sp sp' : Space} {s : Shape} {e : EltTy} {α : Type} {Q : α → sProp (MT nD τ sig Ix Val Name U Lvl)}

/-- A remote copy of a source owned at `X` into a destination owned at any values: the source goes to the send
    cell's payload, the destination at `X` to the receive cell's. -/
theorem wp_send_owns {c' : Thread nD τ} {src : Memref sig c.2.kind sp s e} {dst : Memref sig c'.2.kind sp' s e} {hsc : dst.view.ref.isScScratch = false} {sS sem : SemLoc sig}
    {hsrc : src.view.WordExact} {hdst : dst.view.WordExact} {hsem : DmaTarget.Typed sp sem (.remote c' dst sS hsc)}
    {k : PUnit → Prog (TpuEff nD τ sig Val Λ c.2) α} {q : PosShare TreeShare}
    {X Y : s.Idx → Val e} {d₁ d₂ : D} {κ₁ κ₂ : Name}
    (hd₁ : d₁ ∈ Rd.duties (c, sS) 0) (hd₂ : d₂ ∈ Rd.duties (c', sem) 0)
    (ι ι' : Ix) (N : ℕ) (hN : dst.view.amount sem = N)
    (hk₁ : Rd.amount (c, sS) 0 d₁ = N) (hk₂ : Rd.amount (c', sem) 0 d₂ = N)
    {O₀ : CellTallies nD τ sig Ix} (O : CellTallies nD τ sig Ix) (hO : O₀ = O + tallyAt (c', sem) ι N) {W : Waits sig Ix}
    (hpay₁ : (owns c src q X) ⊢ Rd.payload (c, sS) 0 d₁)
    (hpay₂ : (owns c' dst fullShare X) ⊢ Rd.payload (c', sem) 0 d₂) {Es : Set Name} (hr : τ.routes c c' = true := by routes) :
    iprop(cellInv EE Rd κ₁ (c, sS) ∗ cellInv EE Rd κ₂ (c', sem)
        ∗ owns c src q X ∗ owns c' dst fullShare Y
        ∗ owes c O₀ W
        ∗ dutyTok EE (c, sS) 0 d₁ ∗ reached EE (c, sS) 0
        ∗ dutyTok EE (c', sem) 0 d₂ ∗ reached EE (c', sem) 0)
      ⊢ iprop(((cred (tallyAt (c, sS) ι' N) ∗ owes c O W) -∗ wp frame (wpE' defs 𝒱 c bd Γ) Es (k ⟨⟩) Q)
          -∗ wp frame (wpE' defs 𝒱 c bd Γ) Es (.op (.enqueueDma src (.remote c' dst sS hsc) sem hsrc hdst hsem) k) Q) := by
  iintro ⟨H1, H2, Hs, Hd, HO, Ht1, Hr1, Ht2, Hr2⟩
  ihave Hs' := (show owns c src q X ⊢ iprop(∃ f, ⌜src.view.read Val f = X⌝ ∗ (src.view.loc c ↦[src.view.set]{q} f) : sProp 𝕄) from .rfl) $$ Hs
  ihave Hd' := (show owns c' dst fullShare Y ⊢ iprop(∃ f, ⌜dst.view.read Val f = Y⌝ ∗ (dst.view.loc c' ↦[dst.view.set]{fullShare} f) : sProp 𝕄) from .rfl) $$ Hd
  icases Hs' with ⟨%fs, %hfs, Hs⟩
  icases Hd' with ⟨%fd, %hfd, Hd⟩
  iapply (Rounds.wp_send_pointsTo 𝒱 EE Rd c bd (κ₁ := κ₁) (κ₂ := κ₂) hd₁ hd₂ ι ι' N hN hk₁ hk₂ O hO (W := W) (Γ := Γ) (q := q) (fs := fs) (fd := fd)
      (hpay₁ := (BIBase.Entails.trans (by rw [← hfs]; exact owns_intro c src q fs) hpay₁))
      (hpay₂ := (BIBase.Entails.trans (by
        have h := owns_intro (Ix := Ix) (Name := Name) (U := U) (Lvl := Lvl) c' dst fullShare (dst.view.write Val fd (src.view.read Val fs) Finset.univ)
        rw [View.read_write_univ, hfs] at h
        rw [hfs]; exact h) hpay₂)) (hr := hr)) $$ [H1 H2 Hs Hd HO Ht1 Hr1 Ht2 Hr2]
  isplitl [H1]; · iexact H1
  isplitl [H2]; · iexact H2
  isplitl [Hs]; · iexact Hs
  isplitl [Hd]; · iexact Hd
  isplitl [HO]; · iexact HO
  isplitl [Ht1]; · iexact Ht1
  isplitl [Hr1]; · iexact Hr1
  isplitl [Ht2]; · iexact Ht2
  iexact Hr2

end Send

end Cert.Own

end
-- ==== Proof.KernelIdeal.Values.lean ====
/-
  What the kernel computes, device by device, as functions of the five staged inputs: the projected row sections,
  the attention of one row section over the device's eight heads, and the running sums the ring carries.
-/
module

public import proofs.«01_k».proof.Proof.Own
public import proofs.«01_k».proof.Proof.Gen.KernelIdeal
public import proofs.«01_k».proof.Proof.Gen.KernelIdeal.Skeleton

@[expose] public section

noncomputable section

namespace Cert.KernelIdealProof

open Cert.KernelIdeal Cert.KernelIdeal.Gen
open Idealize.ShloMosaic Idealize.SL.Sem

variable {F : FTy → Type} [FloatOps F]

/-- The staged inputs of every device. -/
structure Ins (F : FTy → Type) where
  x : Dev nD → Vec F S1x256x1024 .f32
  wq : Dev nD → Vec F S1024x1024 .f32
  wo : Dev nD → Vec F S1024x1024 .f32
  wk : Dev nD → Vec F S1024x1024 .f32
  wv : Dev nD → Vec F S1024x1024 .f32

/-! ## Devices around the ring -/

set_option backward.proofsInPublic true in
/-- The device `h` places before `c`. -/
def back (c : Dev nD) (h : ℕ) : Dev nD := ⟨(c.val + 4 - h % 4) % 4, Nat.mod_lt _ (by decide)⟩
set_option backward.proofsInPublic true in
def nxt (c : Dev nD) : Dev nD := ⟨(c.val + 1) % 4, Nat.mod_lt _ (by decide)⟩
set_option backward.proofsInPublic true in
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide
theorem back_zero (c : Dev nD) : back c 0 = c := by revert c; decide
theorem back_nxt_1 (c : Dev nD) : back (nxt c) 1 = back c 0 := by revert c; decide
theorem back_nxt_2 (c : Dev nD) : back (nxt c) 2 = back c 1 := by revert c; decide
theorem back_nxt_3 (c : Dev nD) : back (nxt c) 3 = back c 2 := by revert c; decide

/-! ## Sections and columns -/

theorem inb_row (j : Fin 4) : ∀ a, (![256 * j.val, 0] : Fin 2 → Nat) a + S256x1024.size a ≤ S1024x1024.size a := by
  revert j; decide
theorem inb_q (j : Fin 4) (h : Fin 8) : ∀ a, (![256 * j.val, 128 * h.val] : Fin 2 → Nat) a + S256x128.size a ≤ S1024x1024.size a := by
  revert j h; decide
theorem inb_kv (h : Fin 8) : ∀ a, (![0, 128 * h.val] : Fin 2 → Nat) a + S1024x128.size a ≤ S1024x1024.size a := by
  revert h; decide

/-- The rows `256 j … 256 j + 255`. -/
abbrev rowRect (j : Fin 4) : Rect S1024x1024 := Rect.unit (s := S1024x1024) ![256 * j.val, 0] S256x1024.size (inb_row j)

section Cols
variable {α : Type}
/-- Head `h`'s columns of row section `j`; -/
def qsub (X : S1024x1024.Idx → α) (j : Fin 4) (h : Fin 8) : S256x128.Idx → α :=
  fun i => X ((Rect.unit (s := S1024x1024) ![256 * j.val, 128 * h.val] S256x128.size (inb_q j h)).emb i)
/-- head `h`'s columns of every row. -/
def kvsub (X : S1024x1024.Idx → α) (h : Fin 8) : S1024x128.Idx → α :=
  fun i => X ((Rect.unit (s := S1024x1024) ![0, 128 * h.val] S1024x128.size (inb_kv h)).emb i)

theorem qsub_eq (X : S1024x1024.Idx → α) (j : Fin 4) (h : Fin 8) {off : Fin 2 → Nat} (ho : off = ![256 * j.val, 128 * h.val])
    (p : ∀ a, off a + S256x128.size a ≤ S1024x1024.size a) :
    (fun i => X ((Rect.unit (s := S1024x1024) off S256x128.size p).emb i)) = qsub X j h := by subst ho; rfl
theorem kvsub_eq (X : S1024x1024.Idx → α) (h : Fin 8) {off : Fin 2 → Nat} (ho : off = ![0, 128 * h.val])
    (p : ∀ a, off a + S1024x128.size a ≤ S1024x1024.size a) :
    (fun i => X ((Rect.unit (s := S1024x1024) off S1024x128.size p).emb i)) = kvsub X h := by subst ho; rfl

/-- The array whose four row sections are given. -/
def rows (g : Fin 4 → S256x1024.Idx → α) : S1024x1024.Idx → α := fun i =>
  g ⟨(i (0 : Fin 2)).val / 256, Nat.div_lt_of_lt_mul (show (i (0 : Fin 2)).val < 256 * 4 from (i (0 : Fin 2)).isLt)⟩
    (fun a => match a with
      | ⟨0, _⟩ => ⟨(i (0 : Fin 2)).val % 256, Nat.mod_lt _ (by decide)⟩
      | ⟨1, _⟩ => ⟨(i (1 : Fin 2)).val, (i (1 : Fin 2)).isLt⟩)

theorem rows_row (g : Fin 4 → S256x1024.Idx → α) (j : Fin 4) :
    (fun i => rows g ((rowRect j).emb i)) = g j := by
  funext i
  have h0 : ((rowRect j).emb i (0 : Fin 2)).val = 256 * j.val + (i (0 : Fin 2)).val := by
    show 256 * j.val + 1 * (i (0 : Fin 2)).val = _; omega
  have h1 : ((rowRect j).emb i (1 : Fin 2)).val = (i (1 : Fin 2)).val := by
    show 0 + 1 * (i (1 : Fin 2)).val = _; omega
  have hi : (i (0 : Fin 2)).val < 256 := (i (0 : Fin 2)).isLt
  unfold rows
  congr 1
  · apply Fin.ext; show ((rowRect j).emb i (0 : Fin 2)).val / 256 = j.val; rw [h0]; omega
  · funext a
    match a with
    | ⟨0, _⟩ => apply Fin.ext; show ((rowRect j).emb i (0 : Fin 2)).val % 256 = (i (0 : Fin 2)).val; rw [h0]; omega
    | ⟨1, _⟩ => apply Fin.ext; exact h1

theorem rowRect_disjoint (j j' : Fin 4) (h : j ≠ j') : Disjoint (rowRect j).set (rowRect j').set := by
  rw [Finset.disjoint_left]
  intro i hi hi'
  rw [Rect.mem_set_unit] at hi hi'
  have h1 : 256 * j.val ≤ (i (0 : Fin 2)).val ∧ (i (0 : Fin 2)).val < 256 * j.val + 256 := hi 0
  have h2 : 256 * j'.val ≤ (i (0 : Fin 2)).val ∧ (i (0 : Fin 2)).val < 256 * j'.val + 256 := hi' 0
  exact h (Fin.ext (by omega))

theorem rowRect_cover : (Finset.univ : Finset (Fin 4)).biUnion (fun j => (rowRect j).set) = Finset.univ := by
  ext i
  simp only [Finset.mem_biUnion, Finset.mem_univ, true_and, iff_true]
  have hi : (i (0 : Fin 2)).val < 1024 := (i (0 : Fin 2)).isLt
  have hi1 : (i (1 : Fin 2)).val < 1024 := (i (1 : Fin 2)).isLt
  refine ⟨⟨(i (0 : Fin 2)).val / 256, by omega⟩, ?_⟩
  rw [Rect.mem_set_unit]
  intro a
  match a with
  | ⟨0, _⟩ =>
    show 256 * ((i (0 : Fin 2)).val / 256) ≤ (i (0 : Fin 2)).val ∧ (i (0 : Fin 2)).val < 256 * ((i (0 : Fin 2)).val / 256) + 256
    omega
  | ⟨1, _⟩ =>
    show 0 ≤ (i (1 : Fin 2)).val ∧ (i (1 : Fin 2)).val < 0 + 1024
    omega

end Cols

/-! ## One device's values -/

/-- Head `h`'s share of one row section's output: scores, exponentials over their row sum, times the values, times
    the head's rows of the output weights. -/
def headCtx (q : Vec F S256x128 .bf16) (k v : Vec F S1024x128 .bf16) : FVec F S256x128 .bf16 := k0_pay38 q k v

def headOut (w : FVec F S1024x1024 .bf16) (off : Fin 2 → Nat) (hs : S1024x1024.Slices off S128x1024)
    (q : Vec F S256x128 .bf16) (k v : Vec F S1024x128 .bf16) : FVec F S256x1024 .f32 :=
  matmul dot_S256x128_S128x1024_S256x1024_1_0_0_1_n_n none (headCtx q k v) (extractStridedSlice S128x1024 off w hs)
    (constant S256x1024 .f32 0x00000000#32)

section Acc
variable (w : FVec F S1024x1024 .bf16) (Q K V : Vec F S1024x1024 .bf16) (j : Fin 4)
def att0 : FVec F S256x1024 .f32 := headOut w ![0, 0] slices_S1024x1024_o0_0_S128x1024 (qsub Q j 0) (kvsub K 0) (kvsub V 0)
def att1 : FVec F S256x1024 .f32 := addf (att0 w Q K V j) (headOut w ![128, 0] slices_S1024x1024_o128_0_S128x1024 (qsub Q j 1) (kvsub K 1) (kvsub V 1))
def att2 : FVec F S256x1024 .f32 := addf (att1 w Q K V j) (headOut w ![256, 0] slices_S1024x1024_o256_0_S128x1024 (qsub Q j 2) (kvsub K 2) (kvsub V 2))
def att3 : FVec F S256x1024 .f32 := addf (att2 w Q K V j) (headOut w ![384, 0] slices_S1024x1024_o384_0_S128x1024 (qsub Q j 3) (kvsub K 3) (kvsub V 3))
def att4 : FVec F S256x1024 .f32 := addf (att3 w Q K V j) (headOut w ![512, 0] slices_S1024x1024_o512_0_S128x1024 (qsub Q j 4) (kvsub K 4) (kvsub V 4))
def att5 : FVec F S256x1024 .f32 := addf (att4 w Q K V j) (headOut w ![640, 0] slices_S1024x1024_o640_0_S128x1024 (qsub Q j 5) (kvsub K 5) (kvsub V 5))
def att6 : FVec F S256x1024 .f32 := addf (att5 w Q K V j) (headOut w ![768, 0] slices_S1024x1024_o768_0_S128x1024 (qsub Q j 6) (kvsub K 6) (kvsub V 6))
def att7 : FVec F S256x1024 .f32 := addf (att6 w Q K V j) (headOut w ![896, 0] slices_S1024x1024_o896_0_S128x1024 (qsub Q j 7) (kvsub K 7) (kvsub V 7))
end Acc

/-- A received running sum with a part added. -/
def step (s : FVec F S256x1024 .bf16) (a : FVec F S256x1024 .f32) : FVec F S256x1024 .bf16 :=
  truncf .bf16 (addf (extf .f32 s bitsLt_bf16_f32) a) bitsLt_bf16_f32

variable (I : Ins F)

/-- Device `j`'s block of the activations, narrowed. -/
def xb (j : Dev nD) : Vec F S256x1024 .bf16 := k0_pay6 (k0_pay5 (I.x j))
/-- Device `c`'s four weights, narrowed. -/
def wqb (c : Dev nD) : FVec F S1024x1024 .bf16 := k0_pay1 (I.wq c)
def wkb (c : Dev nD) : FVec F S1024x1024 .bf16 := k0_pay2 (I.wk c)
def wvb (c : Dev nD) : FVec F S1024x1024 .bf16 := k0_pay3 (I.wv c)
def wob (c : Dev nD) : FVec F S1024x1024 .bf16 := k0_pay4 (I.wo c)

/-- Row section `j` of the projections on device `c`. -/
def qb (c : Dev nD) (j : Fin 4) : Vec F S256x1024 .bf16 := k0_pay7 (wqb I c) (xb I j)
def kb (c : Dev nD) (j : Fin 4) : Vec F S256x1024 .bf16 := k0_pay8 (wkb I c) (xb I j)
def vb (c : Dev nD) (j : Fin 4) : Vec F S256x1024 .bf16 := k0_pay10 (k0_pay9 (wvb I c) (xb I j))

def qg (c : Dev nD) : Vec F S1024x1024 .bf16 := rows (qb I c)
def kg (c : Dev nD) : Vec F S1024x1024 .bf16 := rows (kb I c)
def vg (c : Dev nD) : Vec F S1024x1024 .bf16 := rows (vb I c)

/-- Device `c`'s part of row section `j` of the output. -/
def part (c : Dev nD) (j : Fin 4) : FVec F S256x1024 .f32 := att7 (wob I c) (qg I c) (kg I c) (vg I c) j

/-- What device `c` sends first, second and third: the running sum of the section three, two and one places on. -/
def sum0 (c : Dev nD) : FVec F S256x1024 .bf16 := truncf .bf16 (part I c (back c 1)) bitsLt_bf16_f32
def sum1 (c : Dev nD) : FVec F S256x1024 .bf16 := step (sum0 I (prv c)) (part I c (back c 2))
def sum2 (c : Dev nD) : FVec F S256x1024 .bf16 := step (sum1 I (prv c)) (part I c (back c 3))
/-- Device `c`'s block of the result. -/
def out (c : Dev nD) : Vec F S1x256x1024 .f32 :=
  shapeCast S1x256x1024 (addf (extf .f32 (sum2 I (prv c)) bitsLt_bf16_f32) (part I c c)) shapeCasts_S256x1024_S1x256x1024

/-! ## The printed payloads are these values -/

section Pay
variable (w : FVec F S1024x1024 .bf16) (Q K V : Vec F S1024x1024 .bf16) (j : Fin 4)

theorem pay23_eq : k0_pay23 w (qsub Q j 0) (kvsub K 0) (kvsub V 0) = att0 w Q K V j := rfl
theorem pay24_eq : k0_pay24 w (att0 w Q K V j) (qsub Q j 1) (kvsub K 1) (kvsub V 1) (qsub Q j 2) (kvsub K 2) (kvsub V 2) = att2 w Q K V j := rfl
theorem pay26_eq : k0_pay26 w (att2 w Q K V j) (kvsub V 3) (k0_pay25 (qsub Q j 3) (kvsub K 3)) (qsub Q j 4) (kvsub K 4) (kvsub V 4) = att4 w Q K V j := rfl
theorem pay29_eq : k0_pay29 w (att4 w Q K V j) (kvsub V 5) (k0_pay27 (qsub Q j 5) (kvsub K 5)) (k0_pay28 (qsub Q j 5) (kvsub K 5)) (qsub Q j 6) (kvsub K 6) (kvsub V 6)
    = att6 w Q K V j := rfl

theorem shapeCast_id {α : Type} (X : S256x1024.Idx → α) : shapeCast S256x1024 X shapeCasts_S256x1024_S256x1024 = X := by
  funext i; unfold shapeCast; rw [Shape.reshapeEquiv_self]

theorem pay33_eq : k0_pay33 w (att6 w Q K V j) (kvsub V 7) (k0_pay31 (qsub Q j 7) (kvsub K 7)) (k0_pay32 (qsub Q j 7) (kvsub K 7))
    = truncf .bf16 (att7 w Q K V j) bitsLt_bf16_f32 := shapeCast_id _

theorem pay37_eq : k0_pay37 w (kvsub V 0) (k0_pay35 (qsub Q j 0) (kvsub K 0)) (k0_pay36 (qsub Q j 0) (kvsub K 0)) (constant S256x128 .f32 0x00000000#32)
    (qsub Q j 1) (kvsub K 1) (kvsub V 1) = att1 w Q K V j := rfl
theorem pay40_eq : k0_pay40 w (att1 w Q K V j) (k0_pay38 (qsub Q j 2) (kvsub K 2) (kvsub V 2)) (k0_pay39 w)
    (qsub Q j 3) (kvsub K 3) (kvsub V 3) (qsub Q j 4) (kvsub K 4) (kvsub V 4) = att4 w Q K V j := rfl
theorem pay41_eq : k0_pay41 w (att4 w Q K V j) (qsub Q j 5) (kvsub K 5) (kvsub V 5) (qsub Q j 6) (kvsub K 6) (kvsub V 6) = att6 w Q K V j := rfl
theorem pay42_eq (s : Vec F S1x256x1024 .bf16) : k0_pay42 w (att6 w Q K V j) (qsub Q j 7) (kvsub K 7) (kvsub V 7) s
    = shapeCast S1x256x1024 (step (shapeCast S256x1024 s shapeCasts_S1x256x1024_S256x1024) (att7 w Q K V j)) shapeCasts_S256x1024_S1x256x1024 := rfl

theorem pay43_eq : k0_pay43 w (qsub Q j 0) (kvsub K 0) (kvsub V 0) = att0 w Q K V j := rfl
theorem pay45_eq : k0_pay45 w (att0 w Q K V j) (kvsub V 1) (k0_pay44 (qsub Q j 1) (kvsub K 1)) (qsub Q j 2) (kvsub K 2) (kvsub V 2) = att2 w Q K V j := rfl
theorem pay48_eq : k0_pay48 w (att2 w Q K V j) (kvsub V 3) (k0_pay46 (qsub Q j 3) (kvsub K 3)) (k0_pay47 (qsub Q j 3) (kvsub K 3))
    (Scalar.ofBits .f32 0x3F800000#32) (qsub Q j 4) (kvsub K 4) (kvsub V 4) = att4 w Q K V j := rfl
theorem pay52_eq : k0_pay52 w (att4 w Q K V j) (kvsub V 5) (k0_pay50 (qsub Q j 5) (kvsub K 5)) (k0_pay51 (qsub Q j 5) (kvsub K 5))
    (constant S256x128 .f32 0x00000000#32) (qsub Q j 6) (kvsub K 6) (kvsub V 6) = att6 w Q K V j := rfl
theorem pay54_eq (s : Vec F S1x256x1024 .bf16) : k0_pay54 w (att6 w Q K V j) (k0_pay53 (qsub Q j 7) (kvsub K 7) (kvsub V 7)) s
    = shapeCast S1x256x1024 (step (shapeCast S256x1024 s shapeCasts_S1x256x1024_S256x1024) (att7 w Q K V j)) shapeCasts_S256x1024_S1x256x1024 := rfl

theorem pay55_eq : k0_pay55 w (qsub Q j 0) (kvsub K 0) (kvsub V 0) (qsub Q j 1) (kvsub K 1) (kvsub V 1) = att1 w Q K V j := rfl
theorem pay56_eq : k0_pay56 w (att1 w Q K V j) (qsub Q j 2) (kvsub K 2) (kvsub V 2) (qsub Q j 3) (kvsub K 3) (kvsub V 3) = att3 w Q K V j := rfl
theorem pay57_eq : k0_pay57 w (att3 w Q K V j) (qsub Q j 4) (kvsub K 4) (kvsub V 4) (qsub Q j 5) (kvsub K 5) (kvsub V 5) = att5 w Q K V j := rfl
theorem pay59_eq : k0_pay59 w (att5 w Q K V j) (kvsub V 6) (k0_pay58 (qsub Q j 6) (kvsub K 6)) (qsub Q j 7) (kvsub K 7) (kvsub V 7) = att7 w Q K V j := rfl
theorem pay60_eq (s : Vec F S1x256x1024 .bf16) : k0_pay60 (att7 w Q K V j) s
    = shapeCast S1x256x1024 (addf (extf .f32 (shapeCast S256x1024 s shapeCasts_S1x256x1024_S256x1024) bitsLt_bf16_f32) (att7 w Q K V j)) shapeCasts_S256x1024_S1x256x1024 := rfl

end Pay

end Cert.KernelIdealProof

end
-- ==== Proof.KernelIdeal.Cells.lean ====
/-
  The ring's semaphore cells and what each hands over.

  Thirteen cells on each device: the barrier (0), the three send and three receive semaphores of the row sections
  travelling round (1–3, 4–6), and the same of the running sums (7–9, 10–12). A barrier cell has the two duties
  `false`, paid by the device before, and `true`, paid by the device after, which hands over every buffer the owner
  will copy into: three row sections and the three slabs. Every other cell has the duty `false`: a send cell gives the
  source back, a receive cell gives the destination at the values sent.
-/
module

public import proofs.«01_k».proof.Proof.KernelIdeal.Values
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdealProof

open Cert.KernelIdeal Cert.KernelIdeal.Gen Cert.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## The buffers -/

abbrev xgM : Memref sig .tc .vmem S1024x1024 .bf16 := Memref.whole cc0_scratch0
abbrev qgM : Memref sig .tc .vmem S1024x1024 .bf16 := Memref.whole cc0_scratch1
abbrev kgM : Memref sig .tc .vmem S1024x1024 .bf16 := Memref.whole cc0_scratch2
abbrev vgM : Memref sig .tc .vmem S1024x1024 .bf16 := Memref.whole cc0_scratch3
abbrev sbM : Memref sig .tc .vmem S256x1024 .bf16 := Memref.whole cc0_scratch4
abbrev rsM : Memref sig .tc .vmem S3x256x1024 .bf16 := Memref.whole cc0_scratch5
abbrev xM : Memref sig .tc .vmem S1x256x1024 .f32 := Memref.whole cc0_stg0_0
abbrev wqM : Memref sig .tc .vmem S1024x1024 .f32 := Memref.whole cc0_stg1_0
abbrev woM : Memref sig .tc .vmem S1024x1024 .f32 := Memref.whole cc0_stg2_0
abbrev wkM : Memref sig .tc .vmem S1024x1024 .f32 := Memref.whole cc0_stg3_0
abbrev wvM : Memref sig .tc .vmem S1024x1024 .f32 := Memref.whole cc0_stg4_0
abbrev oM : Memref sig .tc .vmem S1x256x1024 .f32 := Memref.whole cc0_stg5_0

/-- Row section `j` of a gathered array. -/
abbrev sec (m : Memref sig .tc .vmem S1024x1024 .bf16) (j : Fin 4) : Memref sig .tc .vmem S256x1024 .bf16 := m.slice (rowRect j) (fun _ => rfl)

theorem inb_slab (t : Fin 3) : ∀ a, (![t.val, 0, 0] : Fin 3 → Nat) a + S1x256x1024.size a ≤ S3x256x1024.size a := by revert t; decide
abbrev slabRect (t : Fin 3) : Rect S3x256x1024 := Rect.unit (s := S3x256x1024) ![t.val, 0, 0] S1x256x1024.size (inb_slab t)
/-- Slab `t` of the landing buffer of the running sums, with its leading axis and without. -/
abbrev slab1 (t : Fin 3) : Memref sig .tc .vmem S1x256x1024 .bf16 := rsM.slice (slabRect t) (fun _ => rfl)
abbrev slab (t : Fin 3) : Memref sig .tc .vmem S256x1024 .bf16 := (slab1 t).squeeze S256x1024 squeezes_S1x256x1024_S256x1024

/-- The credit of one copied section. -/
abbrev N : ℕ := 16384

theorem credit_sec (j : Fin 4) : (sec xgM j).view.dmaCredit = N :=
  View.dmaCredit_closed _ S256x1024 rfl cc0_scratch0.idx rfl _ rfl
theorem credit_slab (t : Fin 3) : (slab t).view.dmaCredit = N :=
  View.dmaCredit_closed _ S256x1024 rfl cc0_scratch5.idx rfl _ rfl
theorem credit_sb : (sbM : Memref sig .tc .vmem S256x1024 .bf16).view.dmaCredit = N :=
  View.dmaCredit_closed _ S256x1024 rfl cc0_scratch4.idx rfl _ rfl

/-! ## The cells -/

abbrev barS : Sem sig := (SemArray.scalar (sig.barrier 0 rfl) : Sems sig S_).sem

/-- A semaphore's number among the thirteen; the staging semaphores get 13. -/
def code : SemLoc sig → ℕ
  | .reg _ => 0
  | .dma q => if q.val < 6 then 13 else q.val - 5

abbrev csem : Fin 13 → SemLoc sig
  | 0 => .reg barS
  | 1 => .dma (6 : Fin 18) | 2 => .dma (7 : Fin 18) | 3 => .dma (8 : Fin 18)
  | 4 => .dma (9 : Fin 18) | 5 => .dma (10 : Fin 18) | 6 => .dma (11 : Fin 18)
  | 7 => .dma (12 : Fin 18) | 8 => .dma (13 : Fin 18) | 9 => .dma (14 : Fin 18)
  | 10 => .dma (15 : Fin 18) | 11 => .dma (16 : Fin 18) | 12 => .dma (17 : Fin 18)

theorem code_csem (i : Fin 13) : code (csem i) = i.val := by revert i; decide

abbrev kcell (ck : Dev nD × Fin 13) : GSem nD τ sig := ((ck.1 : Thread nD τ), csem ck.2)

/-! ## What the cells hand over -/

variable (I : Ins F)

/-- Row section `j` of device `c`'s gathered activations, at share `q`, holding device `j`'s block. -/
def xgOwn (c : Dev nD) (q : PosShare TreeShare) (j : Fin 4) : sProp 𝕄 := owns (c : Thread nD τ) (sec xgM j) q (xb I j)
/-- Slab `t` of device `c`. -/
def slabOwn (c : Dev nD) (t : Fin 3) (X : Vec F S256x1024 .bf16) : sProp 𝕄 := owns (c : Thread nD τ) (slab t) fullShare X
def sbOwn (c : Dev nD) (X : Vec F S256x1024 .bf16) : sProp 𝕄 := owns (c : Thread nD τ) sbM fullShare X

/-- The buffers of device `c` that the device before it copies into, at any values. -/
def landing (c : Dev nD) : sProp 𝕄 :=
  iprop((∃ X : Vec F S256x1024 .bf16, owns (c : Thread nD τ) (sec xgM (back c 1)) fullShare X)
    ∗ (∃ X : Vec F S256x1024 .bf16, owns (c : Thread nD τ) (sec xgM (back c 2)) fullShare X)
    ∗ (∃ X : Vec F S256x1024 .bf16, owns (c : Thread nD τ) (sec xgM (back c 3)) fullShare X)
    ∗ (∃ X, slabOwn c 0 X) ∗ (∃ X, slabOwn c 1 X) ∗ (∃ X, slabOwn c 2 X))

def pay (c : Dev nD) : ℕ → Bool → sProp 𝕄
  | 0, d => if d then landing (nxt c) else iprop(emp)
  | 1, _ => xgOwn I c fullShare.right (back c 0)
  | 2, _ => xgOwn I c fullShare.right (back c 1)
  | 3, _ => xgOwn I c fullShare.right (back c 2)
  | 4, _ => xgOwn I c fullShare (back c 1)
  | 5, _ => xgOwn I c fullShare (back c 2)
  | 6, _ => xgOwn I c fullShare (back c 3)
  | 7, _ => sbOwn c (sum0 I c)
  | 8, _ => slabOwn c 0 (sum1 I c)
  | 9, _ => slabOwn c 1 (sum2 I c)
  | 10, _ => slabOwn c 0 (sum0 I (prv c))
  | 11, _ => slabOwn c 1 (sum1 I (prv c))
  | 12, _ => slabOwn c 2 (sum2 I (prv c))
  | _, _ => iprop(emp)

instance pay_storable (c : Dev nD) (n : ℕ) (d : Bool) : BI.Storable (upEmb : UEmb _ 𝕄) (pay I c n d) := by
  unfold pay landing xgOwn slabOwn sbOwn
  split <;> (try split) <;> infer_instance

def dutiesOf (n : ℕ) : Finset Bool := if n = 0 then Finset.univ else if n < 13 then {false} else ∅

/-- One round, round 0. -/
def Rd : Rounds.Schedule (GSem nD τ sig) Bool 𝕄 where
  duties g r := if r = 0 ∧ g.1.2 = .tc then dutiesOf (code g.2) else ∅
  unitless _ := False
  amount g _ _ := if code g.2 = 0 then 1 else N
  payload g _ d := pay I g.1.1 (code g.2) d
  amount_pos g _ _ _ := by
    by_cases h : code g.2 = 0
    · rw [if_pos h]; exact Nat.one_pos
    · rw [if_neg h]; decide

instance Rd_storable (g : GSem nD τ sig) (r : ℕ) (d : Bool) : BI.Storable (upEmb : UEmb _ 𝕄) ((Rd I).payload g r d) :=
  pay_storable I _ _ _

section Sched
variable (c : Dev nD) (i : Fin 13)

theorem duties_cell : (Rd I).duties (kcell (c, i)) 0 = dutiesOf i.val := by
  dsimp only [Rd]; rw [if_pos ⟨rfl, rfl⟩, code_csem]
theorem duties_bar : (Rd I).duties (kcell (c, 0)) 0 = Finset.univ := duties_cell I c 0
theorem duties_xfer (hi : i ≠ 0) : (Rd I).duties (kcell (c, i)) 0 = {false} := by
  rw [duties_cell]; unfold dutiesOf
  rw [if_neg (fun h : i.val = 0 => hi (Fin.ext h)), if_pos i.isLt]
theorem duties_later (g : GSem nD τ sig) : ∀ r, 1 ≤ r → (Rd I).duties g r = ∅ :=
  fun r hr => by dsimp only [Rd]; rw [if_neg fun h => by omega]

theorem amount_bar (d : Bool) : (Rd I).amount (kcell (c, 0)) 0 d = 1 := rfl
theorem amount_xfer (hi : i ≠ 0) (d : Bool) : (Rd I).amount (kcell (c, i)) 0 d = N := by
  dsimp only [Rd]; rw [code_csem]; exact if_neg (fun h => hi (Fin.ext h))

theorem expect_bar : (Rd I).expect (kcell (c, 0)) 0 = 2 := by
  unfold Schedule.expect Schedule.amountOf
  rw [duties_bar, Finset.sum_congr rfl fun d _ => amount_bar I c d, Finset.sum_const, Finset.card_univ, Fintype.card_bool, smul_eq_mul]
theorem expect_xfer (hi : i ≠ 0) : (Rd I).expect (kcell (c, i)) 0 = N := by
  unfold Schedule.expect Schedule.amountOf; rw [duties_xfer I c i hi, Finset.sum_singleton, amount_xfer I c i hi]

theorem payload_cell (d : Bool) : (Rd I).payload (kcell (c, i)) 0 d = pay I c i.val d := by
  dsimp only [Rd]; rw [code_csem]

theorem rest_bar : bigSep ((Rd I).duties (kcell (c, 0)) 0 \ ∅) (fun d => (Rd I).payload (kcell (c, 0)) 0 d) = iprop(emp ∗ landing (nxt c)) := by
  rw [Finset.sdiff_empty, duties_bar, bigSep_univ_eq_bigSepL [false, true] (by decide) (by decide), bigSepL_cons_cons, bigSepL_singleton]
  rfl
theorem rest_xfer (hi : i ≠ 0) : bigSep ((Rd I).duties (kcell (c, i)) 0 \ ∅) (fun d => (Rd I).payload (kcell (c, i)) 0 d) = pay I c i.val false := by
  rw [Finset.sdiff_empty, duties_xfer I c i hi, bigSep_singleton, payload_cell]

end Sched

/-! ## What each device owes; the levels -/

/-- The total of a list of debts: the head is paid first. -/
def owe : List (GSem nD τ sig × ℕ) → CellTallies nD τ sig Unit
  | [] => 0
  | p :: ps => owe ps + tallyAt p.1 () p.2

theorem owe_pos {ps : List (GSem nD τ sig × ℕ)} {g : GSem nD τ sig} {u : Unit} (h : 0 < owe ps g u) : ∃ p ∈ ps, p.1 = g := by
  induction ps with
  | nil => exact absurd h (Nat.lt_irrefl 0)
  | cons p ps ih =>
    unfold owe at h
    rw [Pi.add_apply, Finsupp.add_apply, tallyAt_apply] at h
    by_cases hp : g = p.1 ∧ u = ()
    · exact ⟨p, List.mem_cons_self, hp.1.symm⟩
    · rw [if_neg hp, Nat.add_zero] at h
      obtain ⟨p', hm, he⟩ := ih h
      exact ⟨p', List.mem_cons_of_mem _ hm, he⟩

/-- What device `c` owes, in the order it pays: the two barrier units, then the six copies it sends on. -/
def dues (c : Dev nD) : List (GSem nD τ sig × ℕ) :=
  [(kcell (prv c, 0), 1), (kcell (nxt c, 0), 1),
   (kcell (nxt c, 4), N), (kcell (nxt c, 5), N), (kcell (nxt c, 6), N),
   (kcell (nxt c, 10), N), (kcell (nxt c, 11), N), (kcell (nxt c, 12), N)]

/-- Barrier 1, the receive cells 2 to 7 in the order they are waited for, everything else 0. -/
def lvl (n : ℕ) : ℕ := match n with
  | 0 => 1 | 4 => 2 | 5 => 3 | 6 => 4 | 10 => 5 | 11 => 6 | 12 => 7 | _ => 0

def L (g : GSem nD τ sig) : Finset Unit := if g.1.2 = .tc then {()} else ∅
def lv (g : GSem nD τ sig) (_ : Unit) : ℕ := lvl (code g.2)

theorem L_of_ne (g : GSem nD τ sig) (h : g.1.2 ≠ .tc) : L g = ∅ := if_neg h
theorem L_tc (c : Dev nD) (sm : SemLoc sig) : L ((c : Thread nD τ), sm) = {()} := if_pos rfl

theorem mayWait (c : Dev nD) (sm : SemLoc sig) (ps : List (GSem nD τ sig × ℕ)) (htc : ∀ p ∈ ps, p.1.1.2 = .tc)
    (h : ∀ p ∈ ps, lvl (code sm) < lvl (code p.1.2)) : (levAts L lv : sProp 𝕄) ⊢ MayWait (c : Thread nD τ) sm () (owe ps) :=
  MayOwe.of_cut (L := L) (lev := lv) (lvl (code sm)) (fun p hp => by rw [Finset.mem_singleton.mp hp, L_tc]; exact Finset.mem_singleton_self _)
    (fun g u hg => by
      obtain ⟨p, hp, rfl⟩ := owe_pos hg
      unfold L; rw [if_pos (htc p hp)]; exact Finset.mem_singleton_self _)
    (fun p hp => by rw [Finset.mem_singleton.mp hp]; exact le_refl _)
    (fun g u hg => by
      obtain ⟨p, hp, rfl⟩ := owe_pos hg
      exact h p hp)

theorem dues_tc (c : Dev nD) (n : ℕ) : ∀ p ∈ (dues c).drop n, p.1.1.2 = .tc := by
  intro p hp
  have hm := List.mem_of_mem_drop hp
  unfold dues at hm
  simp only [List.mem_cons, List.not_mem_nil, or_false] at hm
  rcases hm with rfl | rfl | rfl | rfl | rfl | rfl | rfl | rfl <;> rfl

theorem dues_codes (c : Dev nD) : (dues c).map (fun p => lvl (code p.1.2)) = [1, 1, 2, 3, 4, 5, 6, 7] := rfl

theorem dues_lvl (c : Dev nD) (n l : ℕ) (hl : ∀ v ∈ [1, 1, 2, 3, 4, 5, 6, 7].drop n, l < v) :
    ∀ p ∈ (dues c).drop n, l < lvl (code p.1.2) := by
  intro p hp
  refine hl _ ?_
  rw [← dues_codes c, ← List.map_drop]
  exact List.mem_map_of_mem hp

/-! ## The invariants of every cell -/

def recs (K : Dev nD × Fin 13 → ℕ) : sProp 𝕄 :=
  iprop((bigSep Finset.univ fun ck : Dev nD × Fin 13 => cellInv ER (Rd I) (K ck) (kcell ck))
    ∗ (bigSep Finset.univ fun ck : Dev nD × Fin 13 => reached ER (kcell ck) 0) ∗ levAts L lv)

instance recs_persistent (K : Dev nD × Fin 13 → ℕ) : BI.Persistent (recs I K) := by unfold recs; infer_instance

theorem recs_inv (K : Dev nD × Fin 13 → ℕ) (ck : Dev nD × Fin 13) : recs I K ⊢ (cellInv ER (Rd I) (K ck) (kcell ck) : sProp 𝕄) := by
  unfold recs
  iintro ⟨HI, -⟩
  iapply (show (bigSep Finset.univ fun ck : Dev nD × Fin 13 => (cellInv ER (Rd I) (K ck) (kcell ck) : sProp 𝕄)) ⊢ cellInv ER (Rd I) (K ck) (kcell ck) from bigSep_elim (Finset.mem_univ ck)) $$ HI
theorem recs_reached (K : Dev nD × Fin 13 → ℕ) (ck : Dev nD × Fin 13) : recs I K ⊢ (reached ER (kcell ck) 0 : sProp 𝕄) := by
  unfold recs
  iintro ⟨-, HR, -⟩
  iapply (show (bigSep Finset.univ fun ck : Dev nD × Fin 13 => (reached ER (kcell ck) 0 : sProp 𝕄)) ⊢ reached ER (kcell ck) 0 from bigSep_elim (Finset.mem_univ ck)) $$ HR
theorem recs_lev (K : Dev nD × Fin 13 → ℕ) : recs I K ⊢ (levAts L lv : sProp 𝕄) := by
  unfold recs
  iintro ⟨-, -, HL⟩
  iexact HL

/-- Device `c` with its first `n` debts paid. -/
def left (c : Dev nD) (n : ℕ) : sProp 𝕄 := iprop(∃ W, owes (c : Thread nD τ) (owe ((dues c).drop n)) W)

section Rules

variable {α : Type} {Q : α → sProp (MT nD τ sig Unit (Elt F) ℕ UU ℕ)} {k : PUnit → Prog (TpuEff nD τ sig (Elt F) Λ₀ .tc) α} (K : Dev nD × Fin 13 → ℕ)

/-- A wait for a copy's whole credit: what its cell hands over, and the cell's counter back at zero. -/
theorem wp_wait_cell (c : Dev nD) (i : Fin 13) (hi : i ≠ 0) (n : ℕ) (hl : ∀ v ∈ [1, 1, 2, 3, 4, 5, 6, 7].drop n, lvl i.val < v)
    {sp sp' : Space} {s s' : Shape} {e e' : EltTy} {q : DmaSem sig} (hq : csem i = .dma q)
    {src : Memref sig .tc sp' s' e'} {dst : Memref sig .tc sp s e} {hsrc : src.view.WordExact} {hdst : dst.view.WordExact}
    (hN : dst.view.dmaCredit = N) :
    iprop(recs I K ∗ cred (tallyAt (kcell (c, i)) () N) ∗ left c n ∗ atPos ER (kcell (c, i)) 0 ∅ 0)
      ⊢ iprop(((pay I c i.val false ∗ semVal (kcell (c, i)) 0 ∗ left c n) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  unfold left
  iintro ⟨#HR, Hc, ⟨%W, HO⟩, Hat⟩ Hk
  ihave #HI := (recs_inv I K (c, i)) $$ HR
  iapply (Rounds.wp_wait_rest_token 𝒱₀ ER (Rd I) (c : Thread nD τ) none (sm := csem i) (κ := K (c, i))
      (by rw [hq]; exact wpE_waitDma2_eq 𝒱₀ (c : Thread nD τ) none Set.univ) (Set.mem_univ _) () (O := owe ((dues c).drop n)) (W := W) (R := 0) (m := 0) (T := ∅)
      (by rw [hN, Nat.zero_add]; exact (expect_xfer I c i hi).symm)) $$ [Hc HO Hat]
  · isplitr; · iexact HI
    isplitl [Hc]; · rw [hN]; iexact Hc
    isplitl [HO]; · iexact HO
    isplitr
    · iapply (mayWait c (csem i) ((dues c).drop n) (dues_tc c n) (by rw [code_csem]; exact dues_lvl c n _ hl))
      iapply (recs_lev I K); iexact HR
    iexact Hat
  iintro ⟨HO, Hat, -, Hpay⟩
  ihave Hp := (Entails.of_eq (rest_xfer I c i hi)) $$ Hpay
  imod (Rounds.cell_close ER (Rd I) (Set.mem_univ (K (c, i))) (fun h => h) (R := 0 + 1) (duties_later I (kcell (c, i)))) $$ [Hat] with Hz
  · isplitr; · iexact HI
    iexact Hat
  iapply Hk
  isplitl [Hp]; · iexact Hp
  isplitl [Hz]; · iexact Hz
  iexists _; iexact HO

/-- The `j`-th remote copy, from its send cell `i` to the next device's receive cell `i'`: it pays the debt `n`. -/
theorem wp_send_cell (c m : Dev nD) (hm : m = nxt c) (i i' : Fin 13) (hi : i ≠ 0) (hi' : i' ≠ 0) (n : ℕ)
    (hdue : owe ((dues c).drop n) = owe ((dues c).drop (n + 1)) + tallyAt (kcell (nxt c, i')) () N)
    {q q' : DmaSem sig} (hq : csem i = .dma q) (hq' : csem i' = .dma q')
    {src dst : Memref sig .tc .vmem S256x1024 .bf16} {hsrc : src.view.WordExact} {hdst : dst.view.WordExact}
    {hsc : dst.view.ref.isScScratch = false}
    {hsem : DmaTarget.Typed .vmem (.dma q') (.remote (Dev.tc m : Thread nD τ) dst (.dma q) hsc)}
    (hN : dst.view.dmaCredit = N) {qs : PosShare TreeShare} {X : Vec F S256x1024 .bf16}
    (hp : owns (c : Thread nD τ) src qs X ⊢ pay I c i.val false)
    (hp' : owns (nxt c : Thread nD τ) dst fullShare X ⊢ pay I (nxt c) i'.val false) :
    iprop(recs I K ∗ owns (c : Thread nD τ) src qs X ∗ (∃ Y : Vec F S256x1024 .bf16, owns (nxt c : Thread nD τ) dst fullShare Y) ∗ left c n
        ∗ dutyTok ER (kcell (c, i)) 0 false ∗ dutyTok ER (kcell (nxt c, i')) 0 false)
      ⊢ iprop(((cred (tallyAt (kcell (c, i)) () N) ∗ left c (n + 1)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc m : Thread nD τ) dst (.dma q) hsc) (.dma q') hsrc hdst hsem) k) Q) := by
  subst hm
  unfold left
  iintro ⟨#HR, Hs, ⟨%Y, Hd⟩, ⟨%W, HO⟩, Ht, Ht'⟩ Hk
  have hcell : kcell (c, i) = ((c : Thread nD τ), .dma q) := by rw [← hq]
  have hcell' : kcell (nxt c, i') = ((nxt c : Thread nD τ), .dma q') := by rw [← hq']
  iapply (Cert.Own.wp_send_owns 𝒱₀ ER (Rd I) (c : Thread nD τ) none (c' := (nxt c : Thread nD τ)) (src := src) (dst := dst) (sS := .dma q) (sem := .dma q')
      (hsc := hsc) (hsrc := hsrc) (hdst := hdst) (hsem := hsem) (κ₁ := K (c, i)) (κ₂ := K (nxt c, i')) (d₁ := false) (d₂ := false) (X := X) (Y := Y) (q := qs)
      (by rw [← hcell, duties_xfer I c i hi]; exact Finset.mem_singleton_self _)
      (by rw [← hcell', duties_xfer I (nxt c) i' hi']; exact Finset.mem_singleton_self _)
      () () N hN (by rw [← hcell]; exact amount_xfer I c i hi false) (by rw [← hcell']; exact amount_xfer I (nxt c) i' hi' false)
      (O₀ := owe ((dues c).drop n)) (owe ((dues c).drop (n + 1))) (by rw [← hcell']; exact hdue) (W := W)
      (by rw [← hcell, payload_cell]; exact hp) (by rw [← hcell', payload_cell]; exact hp')) $$ [Hs Hd HO Ht Ht']
  · rw [← hcell, ← hcell']
    isplitr; · iapply (recs_inv I K (c, i)); iexact HR
    isplitr; · iapply (recs_inv I K (nxt c, i')); iexact HR
    isplitl [Hs]; · iexact Hs
    isplitl [Hd]; · iexact Hd
    isplitl [HO]; · iexact HO
    isplitl [Ht]; · iexact Ht
    isplitr; · iapply (recs_reached I K (c, i)); iexact HR
    isplitl [Ht']; · iexact Ht'
    iapply (recs_reached I K (nxt c, i')); iexact HR
  rw [← hcell]
  iintro ⟨Hc, HO⟩
  iapply Hk
  isplitl [Hc]; · iexact Hc
  iexists W; iexact HO

end Rules

end Cert.KernelIdealProof

end
-- ==== Proof.KernelIdeal.Rules.lean ====
/-
  The body's loads, stores, copies and waits as rules about the buffers' sections, slabs and columns, at offsets that
  are equal to the ones the values are stated at.
-/
module

public import proofs.«01_k».proof.Proof.KernelIdeal.Cells

@[expose] public section

noncomputable section

namespace Cert.KernelIdealProof

open Cert.KernelIdeal Cert.KernelIdeal.Gen Cert.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Where each access is -/

theorem off1_at (c : Dev nD) : k0_off1 c = ![256 * (back c 0).val, 0] := by revert c; decide +kernel
theorem off2_at0 (c : Dev nD) : k0_off2 c 0#32 = ![256 * (back c 0).val, 0] := by revert c; decide +kernel
theorem off2_at1 (c : Dev nD) : k0_off2 c 1#32 = ![256 * (back c 1).val, 0] := by revert c; decide +kernel
theorem off2_at2 (c : Dev nD) : k0_off2 c 2#32 = ![256 * (back c 2).val, 0] := by revert c; decide +kernel
theorem off3_at0 (c : Dev nD) : k0_off3 c 0#32 = ![256 * (back c 0).val, 0] := by revert c; decide +kernel
theorem off3_at1 (c : Dev nD) : k0_off3 c 1#32 = ![256 * (back c 1).val, 0] := by revert c; decide +kernel
theorem off3_at2 (c : Dev nD) : k0_off3 c 2#32 = ![256 * (back c 2).val, 0] := by revert c; decide +kernel
theorem off4_at (c : Dev nD) : k0_off4 c = ![256 * (back c 3).val, 0] := by revert c; decide +kernel

/-- The word naming how far back a section lies. -/
abbrev wrd (r : Fin 3) : BitVec 32 := BitVec.ofNat 32 (1 + r.val)
theorem off5_at (c : Dev nD) (r : Fin 3) : k0_off5 c (wrd r) = ![256 * (back c (1 + r.val)).val, 128 * (0 : Fin 8).val] := by revert c r; decide +kernel
theorem off6_at (c : Dev nD) (r : Fin 3) : k0_off6 c (wrd r) = ![256 * (back c (1 + r.val)).val, 128 * (1 : Fin 8).val] := by revert c r; decide +kernel
theorem off7_at (c : Dev nD) (r : Fin 3) : k0_off7 c (wrd r) = ![256 * (back c (1 + r.val)).val, 128 * (2 : Fin 8).val] := by revert c r; decide +kernel
theorem off8_at (c : Dev nD) (r : Fin 3) : k0_off8 c (wrd r) = ![256 * (back c (1 + r.val)).val, 128 * (3 : Fin 8).val] := by revert c r; decide +kernel
theorem off9_at (c : Dev nD) (r : Fin 3) : k0_off9 c (wrd r) = ![256 * (back c (1 + r.val)).val, 128 * (4 : Fin 8).val] := by revert c r; decide +kernel
theorem off10_at (c : Dev nD) (r : Fin 3) : k0_off10 c (wrd r) = ![256 * (back c (1 + r.val)).val, 128 * (5 : Fin 8).val] := by revert c r; decide +kernel
theorem off11_at (c : Dev nD) (r : Fin 3) : k0_off11 c (wrd r) = ![256 * (back c (1 + r.val)).val, 128 * (6 : Fin 8).val] := by revert c r; decide +kernel
theorem off12_at (c : Dev nD) (r : Fin 3) : k0_off12 c (wrd r) = ![256 * (back c (1 + r.val)).val, 128 * (7 : Fin 8).val] := by revert c r; decide +kernel
theorem off13_at (c : Dev nD) : k0_off13 c = ![256 * c.val, 128 * (0 : Fin 8).val] := by revert c; decide +kernel
theorem off14_at (c : Dev nD) : k0_off14 c = ![256 * c.val, 128 * (1 : Fin 8).val] := by revert c; decide +kernel
theorem off15_at (c : Dev nD) : k0_off15 c = ![256 * c.val, 128 * (2 : Fin 8).val] := by revert c; decide +kernel
theorem off16_at (c : Dev nD) : k0_off16 c = ![256 * c.val, 128 * (3 : Fin 8).val] := by revert c; decide +kernel
theorem off17_at (c : Dev nD) : k0_off17 c = ![256 * c.val, 128 * (4 : Fin 8).val] := by revert c; decide +kernel
theorem off18_at (c : Dev nD) : k0_off18 c = ![256 * c.val, 128 * (5 : Fin 8).val] := by revert c; decide +kernel
theorem off19_at (c : Dev nD) : k0_off19 c = ![256 * c.val, 128 * (6 : Fin 8).val] := by revert c; decide +kernel
theorem off20_at (c : Dev nD) : k0_off20 c = ![256 * c.val, 128 * (7 : Fin 8).val] := by revert c; decide +kernel

theorem dev1_at (c : Dev nD) : (⟨k0_dev1 c, k0_dev1_lt c⟩ : Dev nD) = prv c := Fin.ext (k0_dev1_eq c)
theorem dev2_at (c : Dev nD) : (⟨k0_dev2 c, k0_dev2_lt c⟩ : Dev nD) = nxt c := Fin.ext (k0_dev2_eq c)
theorem dev3_at (c : Dev nD) : (⟨k0_dev3 c, k0_dev3_lt c⟩ : Dev nD) = nxt c := Fin.ext (k0_dev3_eq c)
theorem dev4_at (c : Dev nD) : (⟨k0_dev4 c, k0_dev4_lt c⟩ : Dev nD) = nxt c := Fin.ext (k0_dev4_eq c)
theorem dev5_at (c : Dev nD) : (⟨k0_dev5 c, k0_dev5_lt c⟩ : Dev nD) = nxt c := Fin.ext (k0_dev5_eq c)
theorem dev6_at (c : Dev nD) : (⟨k0_dev6 c, k0_dev6_lt c⟩ : Dev nD) = nxt c := Fin.ext (k0_dev6_eq c)
theorem dev7_at (c : Dev nD) : (⟨k0_dev7 c, k0_dev7_lt c⟩ : Dev nD) = nxt c := Fin.ext (k0_dev7_eq c)
theorem dev8_at (c : Dev nD) : (⟨k0_dev8 c, k0_dev8_lt c⟩ : Dev nD) = nxt c := Fin.ext (k0_dev8_eq c)

/-! ## Loads and stores -/

theorem zero2 : (![0, 0] : Fin 2 → Nat) = fun _ => 0 := by funext a; fin_cases a <;> rfl
theorem zero3 : (![0, 0, 0] : Fin 3 → Nat) = fun _ => 0 := by funext a; fin_cases a <;> rfl

/-- The whole array, loaded at offset zero. -/
theorem emb_zero {α : Type} (s : Shape) (X : s.Idx → α) {off : Fin s.rank → Nat} (h : off = fun _ => 0) (p : ∀ a, off a + s.size a ≤ s.size a) :
    (fun j => X ((Rect.unit (s := s) off s.size p).emb j)) = X := by
  subst h
  funext j
  exact congrArg X (funext fun a => Fin.ext (by show 0 + 1 * (j a).val = (j a).val; omega))

section Access
variable {α : Type} {Q : α → sProp (MT nD τ sig Unit (Elt F) ℕ UU ℕ)} (c : Dev nD)

theorem wp_ld_zero {e : EltTy} {s : Shape} {m : Memref sig .tc .vmem s e} {off : Fin s.rank → Nat} (ho : off = fun _ => 0)
    {p : ∀ a, off a + s.size a ≤ s.size a} {hl : m.view.LoadsAt (Rect.unit (s := s) off s.size p).toLoadRect}
    {k : (s.Idx → Elt F e) → Prog (TpuEff nD τ sig (Elt F) Λ₀ .tc) α} {q : PosShare TreeShare} {X : s.Idx → Elt F e} :
    owns (c : Thread nD τ) m q X
      ⊢ iprop((owns (c : Thread nD τ) m q X -∗ wp frame (wpE (defs₀ (F := F)) 𝒱₀ (c : Thread nD τ) none) Set.univ (k X) Q)
        -∗ wp frame (wpE (defs₀ (F := F)) 𝒱₀ (c : Thread nD τ) none) Set.univ (.op (.load m (Rect.unit (s := s) off s.size p).toLoadRect hl) k) Q) := by
  have h := Cert.Own.wp_load_in (defs := defs₀ (F := F)) (Γ := .empty) 𝒱₀ (c : Thread nD τ) none Set.univ (Q := Q) (m := m) (hl := hl) (k := k) (q := q) (X := X)
  rwa [emb_zero s X ho p] at h

theorem wp_ld_sec {m : Memref sig .tc .vmem S1024x1024 .bf16} {j : Fin 4} {off : Fin 2 → Nat} (ho : off = ![256 * j.val, 0])
    {p : ∀ a, off a + S256x1024.size a ≤ S1024x1024.size a} {hl : m.view.LoadsAt (Rect.unit (s := S1024x1024) off S256x1024.size p).toLoadRect}
    {k : Vec F S256x1024 .bf16 → Prog (TpuEff nD τ sig (Elt F) Λ₀ .tc) α} {q : PosShare TreeShare} {X : Vec F S256x1024 .bf16} :
    owns (c : Thread nD τ) (sec m j) q X
      ⊢ iprop((owns (c : Thread nD τ) (sec m j) q X -∗ wp frame (wpE (defs₀ (F := F)) 𝒱₀ (c : Thread nD τ) none) Set.univ (k X) Q)
        -∗ wp frame (wpE (defs₀ (F := F)) 𝒱₀ (c : Thread nD τ) none) Set.univ (.op (.load m (Rect.unit (s := S1024x1024) off S256x1024.size p).toLoadRect hl) k) Q) := by
  subst ho
  exact Cert.Own.wp_load_slice (defs := defs₀ (F := F)) (Γ := .empty) 𝒱₀ (c : Thread nD τ) none Set.univ (fun _ => rfl)

theorem wp_st_sec {m : Memref sig .tc .vmem S1024x1024 .bf16} {j : Fin 4} {off : Fin 2 → Nat} (ho : off = ![256 * j.val, 0])
    {p : ∀ a, off a + S256x1024.size a ≤ S1024x1024.size a} {w : Vec F S256x1024 .bf16}
    {hx : (m.access (Rect.unit (s := S1024x1024) off S256x1024.size p)).Stores Finset.univ}
    {hm : (Finset.univ : Finset (Rect.unit (s := S1024x1024) off S256x1024.size p).shape.Idx) = Finset.univ ∨ ∀ a, (Rect.unit (s := S1024x1024) off S256x1024.size p).stride a = 1}
    {k : PUnit → Prog (TpuEff nD τ sig (Elt F) Λ₀ .tc) α} {X : Vec F S256x1024 .bf16} :
    owns (c : Thread nD τ) (sec m j) fullShare X
      ⊢ iprop((owns (c : Thread nD τ) (sec m j) fullShare w -∗ wp frame (wpE (defs₀ (F := F)) 𝒱₀ (c : Thread nD τ) none) Set.univ (k ⟨⟩) Q)
        -∗ wp frame (wpE (defs₀ (F := F)) 𝒱₀ (c : Thread nD τ) none) Set.univ (.op (.store m (Rect.unit (s := S1024x1024) off S256x1024.size p) w Finset.univ hx hm) k) Q) := by
  subst ho
  exact Cert.Own.wp_store_slice (defs := defs₀ (F := F)) (Γ := .empty) 𝒱₀ (c : Thread nD τ) none Set.univ (fun _ => rfl)

/-- A store the kernel makes to a row section: it first loads the section and drops what it read. -/
theorem wp_put_sec {m : Memref sig .tc .vmem S1024x1024 .bf16} (j : Fin 4) {off : Fin 2 → Nat} (ho : off = ![256 * j.val, 0])
    {p : ∀ a, off a + S256x1024.size a ≤ S1024x1024.size a} {hl : m.view.LoadsAt (Rect.unit (s := S1024x1024) off S256x1024.size p).toLoadRect}
    {w : Vec F S256x1024 .bf16}
    {hx : (m.access (Rect.unit (s := S1024x1024) off S256x1024.size p)).Stores Finset.univ}
    {hm : (Finset.univ : Finset (Rect.unit (s := S1024x1024) off S256x1024.size p).shape.Idx) = Finset.univ ∨ ∀ a, (Rect.unit (s := S1024x1024) off S256x1024.size p).stride a = 1}
    {k : PUnit → Prog (TpuEff nD τ sig (Elt F) Λ₀ .tc) α} :
    iprop(∃ X : Vec F S256x1024 .bf16, owns (c : Thread nD τ) (sec m j) fullShare X)
      ⊢ iprop((owns (c : Thread nD τ) (sec m j) fullShare w -∗ wp frame (wpE (defs₀ (F := F)) 𝒱₀ (c : Thread nD τ) none) Set.univ (k ⟨⟩) Q)
        -∗ wp frame (wpE (defs₀ (F := F)) 𝒱₀ (c : Thread nD τ) none) Set.univ
          (.op (.load m (Rect.unit (s := S1024x1024) off S256x1024.size p).toLoadRect hl)
            fun _ => .op (.store m (Rect.unit (s := S1024x1024) off S256x1024.size p) w Finset.univ hx hm) k) Q) := by
  iintro ⟨%X, H⟩ Hk
  iapply (wp_ld_sec c ho) $$ H
  iintro H
  iapply (wp_st_sec c ho) $$ H
  iintro H
  iapply Hk; iexact H

theorem wp_ld_q {m : Memref sig .tc .vmem S1024x1024 .bf16} (j : Fin 4) (h : Fin 8) {off : Fin 2 → Nat} (ho : off = ![256 * j.val, 128 * h.val])
    {p : ∀ a, off a + S256x128.size a ≤ S1024x1024.size a} {hl : m.view.LoadsAt (Rect.unit (s := S1024x1024) off S256x128.size p).toLoadRect}
    {k : Vec F S256x128 .bf16 → Prog (TpuEff nD τ sig (Elt F) Λ₀ .tc) α} {q : PosShare TreeShare} {X : Vec F S1024x1024 .bf16} :
    owns (c : Thread nD τ) m q X
      ⊢ iprop((owns (c : Thread nD τ) m q X -∗ wp frame (wpE (defs₀ (F := F)) 𝒱₀ (c : Thread nD τ) none) Set.univ (k (qsub X j h)) Q)
        -∗ wp frame (wpE (defs₀ (F := F)) 𝒱₀ (c : Thread nD τ) none) Set.univ (.op (.load m (Rect.unit (s := S1024x1024) off S256x128.size p).toLoadRect hl) k) Q) := by
  have h' := Cert.Own.wp_load_in (defs := defs₀ (F := F)) (Γ := .empty) 𝒱₀ (c : Thread nD τ) none Set.univ (Q := Q) (m := m) (hl := hl) (k := k) (q := q) (X := X)
  rwa [qsub_eq X j h ho p] at h'

theorem wp_ld_kv {m : Memref sig .tc .vmem S1024x1024 .bf16} (h : Fin 8) {off : Fin 2 → Nat} (ho : off = ![0, 128 * h.val])
    {p : ∀ a, off a + S1024x128.size a ≤ S1024x1024.size a} {hl : m.view.LoadsAt (Rect.unit (s := S1024x1024) off S1024x128.size p).toLoadRect}
    {k : Vec F S1024x128 .bf16 → Prog (TpuEff nD τ sig (Elt F) Λ₀ .tc) α} {q : PosShare TreeShare} {X : Vec F S1024x1024 .bf16} :
    owns (c : Thread nD τ) m q X
      ⊢ iprop((owns (c : Thread nD τ) m q X -∗ wp frame (wpE (defs₀ (F := F)) 𝒱₀ (c : Thread nD τ) none) Set.univ (k (kvsub X h)) Q)
        -∗ wp frame (wpE (defs₀ (F := F)) 𝒱₀ (c : Thread nD τ) none) Set.univ (.op (.load m (Rect.unit (s := S1024x1024) off S1024x128.size p).toLoadRect hl) k) Q) := by
  have h' := Cert.Own.wp_load_in (defs := defs₀ (F := F)) (Γ := .empty) 𝒱₀ (c : Thread nD τ) none Set.univ (Q := Q) (m := m) (hl := hl) (k := k) (q := q) (X := X)
  rwa [kvsub_eq X h ho p] at h'

/-- A whole buffer stored at offset zero. -/
theorem wp_st_zero {i : Fin (sig.nNear .tc .vmem)} {hκ : sig.names .tc .vmem i = true} {off : Fin (sig.tyNear .tc .vmem i).shape.rank → Nat} (ho : off = fun _ => 0)
    {p : ∀ a, off a + (sig.tyNear .tc .vmem i).shape.size a ≤ (sig.tyNear .tc .vmem i).shape.size a}
    {w X : (sig.tyNear .tc .vmem i).shape.Idx → Elt F (sig.tyNear .tc .vmem i).elt}
    {hx : ((Memref.whole ⟨.vmem, i, hκ⟩ : Memref sig .tc _ _ _).access (Rect.unit off (sig.tyNear .tc .vmem i).shape.size p)).Stores Finset.univ}
    {hm : (Finset.univ : Finset (Rect.unit (s := (sig.tyNear .tc .vmem i).shape) off (sig.tyNear .tc .vmem i).shape.size p).shape.Idx) = Finset.univ
      ∨ ∀ a, (Rect.unit (s := (sig.tyNear .tc .vmem i).shape) off (sig.tyNear .tc .vmem i).shape.size p).stride a = 1}
    {k : PUnit → Prog (TpuEff nD τ sig (Elt F) Λ₀ .tc) α} :
    owns (c : Thread nD τ) (Memref.whole ⟨.vmem, i, hκ⟩) fullShare X
      ⊢ iprop((owns (c : Thread nD τ) (Memref.whole ⟨.vmem, i, hκ⟩) fullShare w -∗ wp frame (wpE (defs₀ (F := F)) 𝒱₀ (c : Thread nD τ) none) Set.univ (k ⟨⟩) Q)
        -∗ wp frame (wpE (defs₀ (F := F)) 𝒱₀ (c : Thread nD τ) none) Set.univ
          (.op (.store (Memref.whole ⟨.vmem, i, hκ⟩) (Rect.unit off (sig.tyNear .tc .vmem i).shape.size p) w Finset.univ hx hm) k) Q) := by
  subst ho
  have h1 := owns_whole_eq (nD := nD) (τ := τ) (sig := sig) (Val := Elt F) (Ix := Unit) (Name := ℕ) (U := UU) (Lvl := ℕ) (c : Thread nD τ) ⟨.vmem, i, hκ⟩ fullShare X
  have h2 := owns_whole_eq (nD := nD) (τ := τ) (sig := sig) (Val := Elt F) (Ix := Unit) (Name := ℕ) (U := UU) (Lvl := ℕ) (c : Thread nD τ) ⟨.vmem, i, hκ⟩ fullShare w
  rw [h1, h2]
  iintro ⟨%f, -, H⟩ Hk
  iapply (wp_store_whole (defs := defs₀ (F := F)) (Γ := .empty) 𝒱₀ (c : Thread nD τ) none Set.univ (w := w) (f := f)) $$ H
  iintro H
  iapply Hk
  iexists w
  isplitr; · ipureintro; rfl
  iexact H

/-- A block with a leading axis of one. -/
def lead (X : Vec F S256x1024 .bf16) : Vec F S1x256x1024 .bf16 := shapeCast S1x256x1024 X shapeCasts_S256x1024_S1x256x1024

omit [FloatOps F] in
theorem lead_symm (X : Vec F S256x1024 .bf16) :
    (fun x => X ((Shape.reshapeEquiv squeezes_S1x256x1024_S256x1024.numel_eq).symm x)) = lead X := by
  funext x; unfold lead shapeCast; rw [Shape.reshapeEquiv_symm]

omit [FloatOps F] in
theorem lead_apply (X : Vec F S256x1024 .bf16) :
    (fun x => lead X (Shape.reshapeEquiv squeezes_S1x256x1024_S256x1024.numel_eq x)) = X := by
  rw [← lead_symm]; funext x; exact congrArg X (Equiv.symm_apply_apply _ _)

omit [FloatOps F] in
theorem unlead (X : Vec F S256x1024 .bf16) : shapeCast S256x1024 (lead X) shapeCasts_S1x256x1024_S256x1024 = X := lead_apply X

theorem wp_ld_slab (t : Fin 3) {off : Fin 3 → Nat} (ho : off = ![t.val, 0, 0])
    {p : ∀ a, off a + S1x256x1024.size a ≤ S3x256x1024.size a} {hl : rsM.view.LoadsAt (Rect.unit (s := S3x256x1024) off S1x256x1024.size p).toLoadRect}
    {k : Vec F S1x256x1024 .bf16 → Prog (TpuEff nD τ sig (Elt F) Λ₀ .tc) α} {X : Vec F S256x1024 .bf16} :
    slabOwn c t X
      ⊢ iprop((slabOwn c t X -∗ wp frame (wpE (defs₀ (F := F)) 𝒱₀ (c : Thread nD τ) none) Set.univ (k (lead X)) Q)
        -∗ wp frame (wpE (defs₀ (F := F)) 𝒱₀ (c : Thread nD τ) none) Set.univ (.op (.load rsM (Rect.unit (s := S3x256x1024) off S1x256x1024.size p).toLoadRect hl) k) Q) := by
  subst ho
  unfold slabOwn
  iintro H Hk
  ihave H := (owns_unsqueeze (Ix := Unit) (Name := ℕ) (U := UU) (Lvl := ℕ) (c : Thread nD τ) (slab1 t) S256x1024 squeezes_S1x256x1024_S256x1024 fullShare X) $$ H
  rw [lead_symm]
  iapply (Cert.Own.wp_load_slice (defs := defs₀ (F := F)) (Γ := .empty) 𝒱₀ (c : Thread nD τ) none Set.univ (fun _ => rfl)) $$ H
  iintro H
  iapply Hk
  ihave H := (owns_squeeze (Ix := Unit) (Name := ℕ) (U := UU) (Lvl := ℕ) (c : Thread nD τ) (slab1 t) S256x1024 squeezes_S1x256x1024_S256x1024 fullShare (lead X)) $$ H
  rw [lead_apply]
  iexact H

theorem wp_st_slab (t : Fin 3) {off : Fin 3 → Nat} (ho : off = ![t.val, 0, 0])
    {p : ∀ a, off a + S1x256x1024.size a ≤ S3x256x1024.size a} {X Y : Vec F S256x1024 .bf16}
    {hx : (rsM.access (Rect.unit (s := S3x256x1024) off S1x256x1024.size p)).Stores Finset.univ}
    {hm : (Finset.univ : Finset (Rect.unit (s := S3x256x1024) off S1x256x1024.size p).shape.Idx) = Finset.univ ∨ ∀ a, (Rect.unit (s := S3x256x1024) off S1x256x1024.size p).stride a = 1}
    {k : PUnit → Prog (TpuEff nD τ sig (Elt F) Λ₀ .tc) α} {w : Vec F S1x256x1024 .bf16} (hw : w = lead Y) :
    slabOwn c t X
      ⊢ iprop((slabOwn c t Y -∗ wp frame (wpE (defs₀ (F := F)) 𝒱₀ (c : Thread nD τ) none) Set.univ (k ⟨⟩) Q)
        -∗ wp frame (wpE (defs₀ (F := F)) 𝒱₀ (c : Thread nD τ) none) Set.univ (.op (.store rsM (Rect.unit (s := S3x256x1024) off S1x256x1024.size p) w Finset.univ hx hm) k) Q) := by
  subst ho
  subst hw
  unfold slabOwn
  iintro H Hk
  ihave H := (owns_unsqueeze (Ix := Unit) (Name := ℕ) (U := UU) (Lvl := ℕ) (c : Thread nD τ) (slab1 t) S256x1024 squeezes_S1x256x1024_S256x1024 fullShare X) $$ H
  iapply (Cert.Own.wp_store_slice (defs := defs₀ (F := F)) (Γ := .empty) 𝒱₀ (c : Thread nD τ) none Set.univ (fun _ => rfl)) $$ H
  iintro H
  iapply Hk
  ihave H := (owns_squeeze (Ix := Unit) (Name := ℕ) (U := UU) (Lvl := ℕ) (c : Thread nD τ) (slab1 t) S256x1024 squeezes_S1x256x1024_S256x1024 fullShare (lead Y)) $$ H
  rw [lead_apply]
  iexact H

end Access

/-! ## Buffers in sections and slabs -/

set_option backward.proofsInPublic true in
theorem backs (c : Dev nD) : (Finset.univ : Finset (Fin 4)) = ([back c 0, back c 1, back c 2, back c 3] : List (Fin 4)).toFinset ∧ ([back c 0, back c 1, back c 2, back c 3] : List (Fin 4)).Nodup := by
  revert c; decide +kernel

theorem sections (c : Dev nD) (Φ : Fin 4 → sProp 𝕄) : bigSep Finset.univ Φ = iprop(Φ (back c 0) ∗ Φ (back c 1) ∗ Φ (back c 2) ∗ Φ (back c 3)) := by
  rw [bigSep_univ_eq_bigSepL [back c 0, back c 1, back c 2, back c 3] (backs c).1 (backs c).2, bigSepL_cons_cons, bigSepL_cons_cons, bigSepL_cons_cons, bigSepL_singleton]
  rfl

/-- One section at any values. -/
abbrev anySec (c : Dev nD) (m : Memref sig .tc .vmem S1024x1024 .bf16) (j : Fin 4) : sProp 𝕄 :=
  iprop(∃ X : Vec F S256x1024 .bf16, owns (c : Thread nD τ) (sec m j) fullShare X)

/-- A gathered array taken apart, -/
theorem split_sections (c : Dev nD) (m : Memref sig .tc .vmem S1024x1024 .bf16) (X : Vec F S1024x1024 .bf16) :
    (owns (c : Thread nD τ) m fullShare X : sProp 𝕄) ⊢ iprop(anySec c m (back c 0) ∗ anySec c m (back c 1) ∗ anySec c m (back c 2) ∗ anySec c m (back c 3)) := by
  iintro H
  ihave H := (owns_rects (c : Thread nD τ) m fullShare rowRect (fun _ _ => rfl) rowRect_disjoint rowRect_cover X) $$ H
  ihave H := (Entails.of_eq (sections c _)) $$ H
  icases H with ⟨H0, H1, H2, H3⟩
  isplitl [H0]; · iexists _; iexact H0
  isplitl [H1]; · iexists _; iexact H1
  isplitl [H2]; · iexists _; iexact H2
  iexists _; iexact H3

/-- and put together. -/
theorem join_sections (c : Dev nD) (m : Memref sig .tc .vmem S1024x1024 .bf16) (g : Fin 4 → Vec F S256x1024 .bf16) :
    iprop(owns (c : Thread nD τ) (sec m (back c 0)) fullShare (g (back c 0)) ∗ owns (c : Thread nD τ) (sec m (back c 1)) fullShare (g (back c 1))
        ∗ owns (c : Thread nD τ) (sec m (back c 2)) fullShare (g (back c 2)) ∗ owns (c : Thread nD τ) (sec m (back c 3)) fullShare (g (back c 3)))
      ⊢ (owns (c : Thread nD τ) m fullShare (rows g) : sProp 𝕄) := by
  have h := owns_of_rects (nD := nD) (τ := τ) (sig := sig) (Val := Elt F) (Ix := Unit) (Name := ℕ) (U := UU) (Lvl := ℕ)
    (c : Thread nD τ) m fullShare rowRect (fun _ _ => rfl) rowRect_disjoint rowRect_cover (rows g)
  simp only [rows_row] at h
  rw [sections c] at h
  exact h

theorem slab_disjoint (t t' : Fin 3) (h : t ≠ t') : Disjoint (slabRect t).set (slabRect t').set := by
  rw [Finset.disjoint_left]
  intro i hi hi'
  rw [Rect.mem_set_unit] at hi hi'
  have h1 : t.val ≤ (i (0 : Fin 3)).val ∧ (i (0 : Fin 3)).val < t.val + 1 := hi 0
  have h2 : t'.val ≤ (i (0 : Fin 3)).val ∧ (i (0 : Fin 3)).val < t'.val + 1 := hi' 0
  exact h (Fin.ext (by omega))

theorem slab_cover : (Finset.univ : Finset (Fin 3)).biUnion (fun t => (slabRect t).set) = Finset.univ := by
  ext i
  simp only [Finset.mem_biUnion, Finset.mem_univ, true_and, iff_true]
  refine ⟨⟨(i (0 : Fin 3)).val, (i (0 : Fin 3)).isLt⟩, ?_⟩
  rw [Rect.mem_set_unit]
  have hi1 : (i (1 : Fin 3)).val < 256 := (i (1 : Fin 3)).isLt
  have hi2 : (i (2 : Fin 3)).val < 1024 := (i (2 : Fin 3)).isLt
  intro a
  match a with
  | ⟨0, _⟩ => exact ⟨le_refl _, Nat.lt_succ_self _⟩
  | ⟨1, _⟩ => exact ⟨Nat.zero_le _, by show (i (1 : Fin 3)).val < 0 + 256; omega⟩
  | ⟨2, _⟩ => exact ⟨Nat.zero_le _, by show (i (2 : Fin 3)).val < 0 + 1024; omega⟩

theorem three (Φ : Fin 3 → sProp 𝕄) : bigSep Finset.univ Φ = iprop(Φ 0 ∗ Φ 1 ∗ Φ 2) := by
  rw [bigSep_univ_eq_bigSepL [0, 1, 2] (by decide) (by decide), bigSepL_cons_cons, bigSepL_cons_cons, bigSepL_singleton]
  rfl

theorem split_slabs (c : Dev nD) (X : Vec F S3x256x1024 .bf16) :
    (owns (c : Thread nD τ) rsM fullShare X : sProp 𝕄) ⊢ iprop((∃ X, slabOwn c 0 X) ∗ (∃ X, slabOwn c 1 X) ∗ (∃ X, slabOwn c 2 X)) := by
  have h (t : Fin 3) (Y : Vec F S1x256x1024 .bf16) : (owns (c : Thread nD τ) (slab1 t) fullShare Y : sProp 𝕄) ⊢ iprop(∃ X, slabOwn c t X) := by
    iintro H
    ihave H := (owns_squeeze (Ix := Unit) (Name := ℕ) (U := UU) (Lvl := ℕ) (c : Thread nD τ) (slab1 t) S256x1024 squeezes_S1x256x1024_S256x1024 fullShare Y) $$ H
    iexists _
    unfold slabOwn
    iexact H
  iintro H
  ihave H := (owns_rects (c : Thread nD τ) rsM fullShare slabRect (fun _ _ => rfl) slab_disjoint slab_cover X) $$ H
  ihave H := (Entails.of_eq (three _)) $$ H
  icases H with ⟨H0, H1, H2⟩
  isplitl [H0]; · iapply (h 0 _); iexact H0
  isplitl [H1]; · iapply (h 1 _); iexact H1
  iapply (h 2 _); iexact H2

/-- The array whose three slabs are given. -/
def slabs (g : Fin 3 → Vec F S1x256x1024 .bf16) : Vec F S3x256x1024 .bf16 := fun i =>
  g ⟨(i (0 : Fin 3)).val, (i (0 : Fin 3)).isLt⟩ (fun a => match a with
    | ⟨0, _⟩ => ⟨0, Nat.one_pos⟩
    | ⟨1, _⟩ => ⟨(i (1 : Fin 3)).val, (i (1 : Fin 3)).isLt⟩
    | ⟨2, _⟩ => ⟨(i (2 : Fin 3)).val, (i (2 : Fin 3)).isLt⟩)

omit [FloatOps F] in
theorem slabs_slab (g : Fin 3 → Vec F S1x256x1024 .bf16) (t : Fin 3) : (fun i => slabs g ((slabRect t).emb i)) = g t := by
  funext i
  have hi : (i (0 : Fin 3)).val < 1 := (i (0 : Fin 3)).isLt
  have h0 : ((slabRect t).emb i (0 : Fin 3)).val = t.val := by show t.val + 1 * (i (0 : Fin 3)).val = _; omega
  have h1 : ((slabRect t).emb i (1 : Fin 3)).val = (i (1 : Fin 3)).val := by show 0 + 1 * (i (1 : Fin 3)).val = _; omega
  have h2 : ((slabRect t).emb i (2 : Fin 3)).val = (i (2 : Fin 3)).val := by show 0 + 1 * (i (2 : Fin 3)).val = _; omega
  unfold slabs
  congr 1
  · exact Fin.ext h0
  · funext a
    match a with
    | ⟨0, _⟩ => apply Fin.ext; show 0 = (i (0 : Fin 3)).val; omega
    | ⟨1, _⟩ => exact Fin.ext h1
    | ⟨2, _⟩ => exact Fin.ext h2

theorem join_slabs (c : Dev nD) (X0 X1 X2 : Vec F S256x1024 .bf16) :
    iprop(slabOwn c 0 X0 ∗ slabOwn c 1 X1 ∗ slabOwn c 2 X2) ⊢ (iprop(∃ X : Vec F S3x256x1024 .bf16, owns (c : Thread nD τ) rsM fullShare X) : sProp 𝕄) := by
  have h := owns_of_rects (nD := nD) (τ := τ) (sig := sig) (Val := Elt F) (Ix := Unit) (Name := ℕ) (U := UU) (Lvl := ℕ)
    (c : Thread nD τ) rsM fullShare slabRect (fun _ _ => rfl) slab_disjoint slab_cover (slabs fun t => match t with | 0 => lead X0 | 1 => lead X1 | 2 => lead X2)
  simp only [slabs_slab] at h
  rw [three] at h
  have h' (t : Fin 3) (X : Vec F S256x1024 .bf16) : slabOwn c t X ⊢ (owns (c : Thread nD τ) (slab1 t) fullShare (lead X) : sProp 𝕄) := by
    have h'' := owns_unsqueeze (Val := Elt F) (Ix := Unit) (Name := ℕ) (U := UU) (Lvl := ℕ) (c : Thread nD τ) (slab1 t) S256x1024 squeezes_S1x256x1024_S256x1024 fullShare X
    rwa [lead_symm] at h''
  iintro ⟨H0, H1, H2⟩
  ihave H0 := (h' 0 X0) $$ H0
  ihave H1 := (h' 1 X1) $$ H1
  ihave H2 := (h' 2 X2) $$ H2
  iexists _
  iapply h
  isplitl [H0]; · iexact H0
  isplitl [H1]; · iexact H1
  iexact H2

/-! ## The copies -/

variable (I : Ins F)

section Copies
variable {α : Type} {Q : α → sProp (MT nD τ sig Unit (Elt F) ℕ UU ℕ)} {k : PUnit → Prog (TpuEff nD τ sig (Elt F) Λ₀ .tc) α} (K : Dev nD × Fin 13 → ℕ)

/-- The two tokens a copy pays with. -/
def toks (c : Dev nD) (i i' : Fin 13) : sProp 𝕄 := iprop(dutyTok ER (kcell (c, i)) 0 false ∗ dutyTok ER (kcell (nxt c, i')) 0 false)
/-- What a wait takes. -/
def due (c : Dev nD) (i : Fin 13) : sProp 𝕄 := iprop(cred (tallyAt (kcell (c, i)) () N) ∗ atPos ER (kcell (c, i)) 0 ∅ 0)

/-- A row section sent on: half of it lent to the copy. -/
theorem wp_send_sec (c m : Dev nD) (hm : m = nxt c) (i i' : Fin 13) (hi : i ≠ 0) (hi' : i' ≠ 0) (n : ℕ)
    (hdue : owe ((dues c).drop n) = owe ((dues c).drop (n + 1)) + tallyAt (kcell (nxt c, i')) () N)
    {q q' : DmaSem sig} (hq : csem i = .dma q) (hq' : csem i' = .dma q')
    (j : Fin 4) {off : Fin 2 → Nat} (ho : off = ![256 * j.val, 0]) {p : ∀ a, off a + S256x1024.size a ≤ S1024x1024.size a}
    {hs hs' : ∀ a, (Rect.unit (s := S1024x1024) off S256x1024.size p).stride a = 1}
    {hsrc : (xgM.slice (Rect.unit (s := S1024x1024) off S256x1024.size p) hs).view.WordExact} {hdst : (xgM.slice (Rect.unit (s := S1024x1024) off S256x1024.size p) hs').view.WordExact}
    {hsc : (xgM.slice (Rect.unit (s := S1024x1024) off S256x1024.size p) hs').view.ref.isScScratch = false}
    {hsem : DmaTarget.Typed .vmem (.dma q') (.remote (Dev.tc m : Thread nD τ) (xgM.slice (Rect.unit (s := S1024x1024) off S256x1024.size p) hs') (.dma q) hsc)}
    (hp : xgOwn I c fullShare.right j ⊢ pay I c i.val false) (hp' : xgOwn I (nxt c) fullShare j ⊢ pay I (nxt c) i'.val false) :
    iprop(recs I K ∗ xgOwn I c fullShare j ∗ anySec (nxt c) xgM j ∗ left c n ∗ toks c i i' ∗ atPos ER (kcell (c, i)) 0 ∅ 0)
      ⊢ iprop(((xgOwn I c fullShare.left j ∗ due c i ∗ left c (n + 1)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (xgM.slice (Rect.unit (s := S1024x1024) off S256x1024.size p) hs)
                (.remote (Dev.tc m : Thread nD τ) (xgM.slice (Rect.unit (s := S1024x1024) off S256x1024.size p) hs') (.dma q) hsc) (.dma q') hsrc hdst hsem) k) Q) := by
  subst ho
  unfold toks due
  iintro ⟨HR, Hx, Hd, HO, ⟨Ht, Ht'⟩, Hat⟩ Hk
  ihave Hx := (show xgOwn I c fullShare j ⊢ (iprop(xgOwn I c fullShare.left j ∗ xgOwn I c fullShare.right j) : sProp 𝕄) from (owns_halves (c : Thread nD τ) (sec xgM j) fullShare (xb I j)).1) $$ Hx
  icases Hx with ⟨Hl, Hr⟩
  iapply (wp_send_cell I K c m hm i i' hi hi' n hdue hq hq' (qs := fullShare.right) (X := xb I j) (credit_sec j) hp hp') $$ [HR Hr Hd HO Ht Ht']
  · isplitl [HR]; · iexact HR
    isplitl [Hr]; · unfold xgOwn; iexact Hr
    isplitl [Hd]; · iexact Hd
    isplitl [HO]; · iexact HO
    isplitl [Ht]; · iexact Ht
    iexact Ht'
  iintro ⟨Hc, HO⟩
  iapply Hk
  isplitl [Hl]; · iexact Hl
  isplitl [Hc Hat]
  · isplitl [Hc]; · iexact Hc
    iexact Hat
  iexact HO

/-- A running sum sent on. -/
theorem wp_send_sum (c m : Dev nD) (hm : m = nxt c) (i i' : Fin 13) (hi : i ≠ 0) (hi' : i' ≠ 0) (n : ℕ)
    (hdue : owe ((dues c).drop n) = owe ((dues c).drop (n + 1)) + tallyAt (kcell (nxt c, i')) () N)
    {q q' : DmaSem sig} (hq : csem i = .dma q) (hq' : csem i' = .dma q')
    {src dst : Memref sig .tc .vmem S256x1024 .bf16} {hsrc : src.view.WordExact} {hdst : dst.view.WordExact}
    {hsc : dst.view.ref.isScScratch = false}
    {hsem : DmaTarget.Typed .vmem (.dma q') (.remote (Dev.tc m : Thread nD τ) dst (.dma q) hsc)}
    (t : Fin 3) (ht : dst = slab t) {X : Vec F S256x1024 .bf16} {P : sProp 𝕄} (hP : P ⊢ owns (c : Thread nD τ) src fullShare X)
    (hp : owns (c : Thread nD τ) src fullShare X ⊢ pay I c i.val false) (hp' : slabOwn (nxt c) t X ⊢ pay I (nxt c) i'.val false) :
    iprop(recs I K ∗ P ∗ (∃ Y, slabOwn (nxt c) t Y) ∗ left c n ∗ toks c i i' ∗ atPos ER (kcell (c, i)) 0 ∅ 0)
      ⊢ iprop(((due c i ∗ left c (n + 1)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc m : Thread nD τ) dst (.dma q) hsc) (.dma q') hsrc hdst hsem) k) Q) := by
  subst ht
  unfold toks due
  iintro ⟨HR, Hs, Hd, HO, ⟨Ht, Ht'⟩, Hat⟩ Hk
  ihave Hs := hP $$ Hs
  iapply (wp_send_cell I K c m hm i i' hi hi' n hdue hq hq' (qs := fullShare) (X := X) (credit_slab t) hp hp') $$ [HR Hs Hd HO Ht Ht']
  · isplitl [HR]; · iexact HR
    isplitl [Hs]; · iexact Hs
    isplitl [Hd]; · unfold slabOwn; iexact Hd
    isplitl [HO]; · iexact HO
    isplitl [Ht]; · iexact Ht
    iexact Ht'
  iintro ⟨Hc, HO⟩
  iapply Hk
  isplitl [Hc Hat]
  · isplitl [Hc]; · iexact Hc
    iexact Hat
  iexact HO

/-- A wait, with what it takes in one piece. -/
theorem wp_wait_due (c : Dev nD) (i : Fin 13) (hi : i ≠ 0) (n : ℕ) (hl : ∀ v ∈ [1, 1, 2, 3, 4, 5, 6, 7].drop n, lvl i.val < v)
    {sp sp' : Space} {s s' : Shape} {e e' : EltTy} {q : DmaSem sig} (hq : csem i = .dma q)
    {src : Memref sig .tc sp' s' e'} {dst : Memref sig .tc sp s e} {hsrc : src.view.WordExact} {hdst : dst.view.WordExact}
    (hN : dst.view.dmaCredit = N) {P : sProp 𝕄} (hP : pay I c i.val false ⊢ P) :
    iprop(recs I K ∗ due c i ∗ left c n)
      ⊢ iprop(((P ∗ semVal (kcell (c, i)) 0 ∗ left c n) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  unfold due
  iintro ⟨HR, ⟨Hc, Hat⟩, HO⟩ Hk
  iapply (wp_wait_cell I K c i hi n hl hq hN) $$ [HR Hc Hat HO]
  · isplitl [HR]; · iexact HR
    isplitl [Hc]; · iexact Hc
    isplitl [HO]; · iexact HO
    iexact Hat
  iintro ⟨Hp, Hz, HO⟩
  iapply Hk
  isplitl [Hp]; · iapply hP; iexact Hp
  isplitl [Hz]; · iexact Hz
  iexact HO

end Copies

end Cert.KernelIdealProof

end
-- ==== Proof.KernelIdeal.Gather.lean ====
/-
  The body's first six parts: the handshake, the row sections of the activations travelling round the ring, and their
  projections. Each part is given what it touches and hands it back to whatever follows.
-/
module

public import proofs.«01_k».proof.Proof.KernelIdeal.Rules

@[expose] public section

noncomputable section

namespace Cert.KernelIdealProof

open Cert.KernelIdeal Cert.KernelIdeal.Gen Cert.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (K : Dev nD × Fin 13 → ℕ)

/-- What one copy of a row section pays with, and where it goes. -/
def post (c : Dev nD) (i i' : Fin 13) : sProp 𝕄 := iprop(toks c i i' ∗ atPos ER (kcell (c, i)) 0 ∅ 0)

/-- The staged inputs. -/
def inOwn (c : Dev nD) : sProp 𝕄 :=
  iprop(owns (c : Thread nD τ) xM fullShare (I.x c) ∗ owns (c : Thread nD τ) wqM fullShare (I.wq c) ∗ owns (c : Thread nD τ) woM fullShare (I.wo c)
    ∗ owns (c : Thread nD τ) wkM fullShare (I.wk c) ∗ owns (c : Thread nD τ) wvM fullShare (I.wv c))

/-- What the handshake takes. -/
def shake (c : Dev nD) : sProp 𝕄 :=
  iprop(cred (tallyAt (kcell (c, 0)) () 2) ∗ atPos ER (kcell (c, 0)) 0 ∅ 0 ∗ dutyTok ER (kcell (prv c, 0)) 0 true ∗ dutyTok ER (kcell (nxt c, 0)) 0 false)

/-- One section of a projection. -/
abbrev secOwn (c : Dev nD) (m : Memref sig .tc .vmem S1024x1024 .bf16) (j : Fin 4) (X : Vec F S256x1024 .bf16) : sProp 𝕄 :=
  owns (c : Thread nD τ) (sec m j) fullShare X

/-- The handshake with both neighbours, then the loads of the inputs. -/
theorem part1_spec  (c : Dev nD)  {Q : (Σ' (d0 : Dev nD) (v2 : BitVec 32) (v7 : BitVec 32) (v15 : FVec F S1024x1024 .bf16) (v18 : FVec F S1024x1024 .bf16) (v21 : FVec F S1024x1024 .bf16) (v24 : FVec F S1024x1024 .bf16) (v27 : FVec F S256x1024 .bf16), BitVec 32) → sProp (MT nD τ sig Unit (Elt F) ℕ UU ℕ)} :
    iprop(recs I K ∗ shake c ∗ left c 0 ∗ landing c ∗ inOwn I c)
      ⊢ iprop((∀ v2 : BitVec 32, ∀ v7 : BitVec 32, ∀ v28 : BitVec 32, (left c 2 ∗ landing (nxt c) ∗ semVal (kcell (c, 0)) 0 ∗ inOwn I c) -∗ Q ⟨c, v2, v7, wqb I c, wkb I c, wvb I c, wob I c, k0_pay5 (I.x c), v28⟩)
          -∗ wp frame (wpE (defs₀ (F := F)) 𝒱₀ (c : Thread nD τ) none) Set.univ (k0_part1_skel xM (Memref.isWhole_whole _) wqM (Memref.isWhole_whole _) woM (Memref.isWhole_whole _) wkM (Memref.isWhole_whole _) wvM (Memref.isWhole_whole _) oM (Memref.isWhole_whole _) xgM (Memref.isWhole_whole _) qgM (Memref.isWhole_whole _) kgM (Memref.isWhole_whole _) vgM (Memref.isWhole_whole _) sbM (Memref.isWhole_whole _) rsM (Memref.isWhole_whole _) cc0_scratch6 cc0_scratch7 cc0_scratch8 cc0_scratch9 ) Q) := by
  unfold k0_part1_skel
  simp only [Prog.lift, Prog.bind_op, Prog.bind_ret, Prog.pure_eq_ret]
  unfold shake inOwn left wqb wkb wvb wob
  iintro ⟨#HR, ⟨Hcr, Hat, HtP, HtN⟩, ⟨%W, HO⟩, Hland, ⟨Hx, Hwq, Hwo, Hwk, Hwv⟩⟩ Hc
  rw [wp_deviceId]
  simp only [semSignalWord, semWaitWord, Prog.lift, Prog.bind_op, Prog.bind_ret, Prog.pure_eq_ret]
  rw [dev1_at, dev2_at]
  iapply (Rounds.wp_signal 𝒱₀ ER (Rd I) (c : Thread nD τ) none (dst := (prv c : Thread nD τ)) (κ := K (prv c, 0)) (d := true)
    (by rw [duties_bar]; exact Finset.mem_univ _) ((amount_bar I (prv c) true).trans (by decide)) () (owe ((dues c).drop 1)) rfl) $$ [HO HtP Hland]
  · isplitr; · iapply (recs_inv I K (prv c, 0)); iexact HR
    isplitl [HO]; · iexact HO
    isplitl [HtP]; · iexact HtP
    isplitl [Hland]
    · iapply (show landing c ⊢ ((Rd I).payload (kcell (prv c, 0)) 0 true : sProp 𝕄) from by rw [payload_cell]; exact Entails.of_eq (congrArg landing (nxt_prv c).symm))
      iexact Hland
    iapply (recs_reached I K (prv c, 0)); iexact HR
  iintro HO
  iapply (Rounds.wp_signal 𝒱₀ ER (Rd I) (c : Thread nD τ) none (dst := (nxt c : Thread nD τ)) (κ := K (nxt c, 0)) (d := false)
    (by rw [duties_bar]; exact Finset.mem_univ _) ((amount_bar I (nxt c) false).trans (by decide)) () (owe ((dues c).drop 2)) rfl) $$ [HO HtN]
  · isplitr; · iapply (recs_inv I K (nxt c, 0)); iexact HR
    isplitl [HO]; · iexact HO
    isplitl [HtN]; · iexact HtN
    isplitr
    · iapply (show (iprop(emp) : sProp 𝕄) ⊢ ((Rd I).payload (kcell (nxt c, 0)) 0 false : sProp 𝕄) from by rw [payload_cell]; exact .rfl)
      iempintro
    iapply (recs_reached I K (nxt c, 0)); iexact HR
  iintro HO
  iapply (Rounds.wp_wait_rest_token 𝒱₀ ER (Rd I) (c : Thread nD τ) none (sm := .reg barS) (κ := K (c, 0)) (wpE_semWait_eq 𝒱₀ (c : Thread nD τ) none Set.univ) (Set.mem_univ _) ()
    (O := owe ((dues c).drop 2)) (W := W) (R := 0) (m := 0) (T := ∅) (by rw [expect_bar]; rfl)) $$ [Hcr HO Hat]
  · isplitr; · iapply (recs_inv I K (c, 0)); iexact HR
    isplitl [Hcr]; · iexact Hcr
    isplitl [HO]; · iexact HO
    isplitr
    · iapply (mayWait c (.reg barS) ((dues c).drop 2) (dues_tc c 2) (dues_lvl c 2 _ (by decide)))
      iapply (recs_lev I K); iexact HR
    iexact Hat
  iintro ⟨HO, Hat, -, Hpay⟩
  ihave Hp := (Entails.of_eq (rest_bar I c)) $$ Hpay
  imod (Rounds.cell_close ER (Rd I) (Set.mem_univ (K (c, 0))) (fun h => h) (R := 0 + 1) (duties_later I (kcell (c, 0)))) $$ [Hat] with Hz
  · isplitr; · iapply (recs_inv I K (c, 0)); iexact HR
    iexact Hat
  icases Hp with ⟨-, Hland⟩
  iapply (wp_ld_zero c zero2) $$ Hwq; iintro Hwq
  iapply (wp_ld_zero c zero2) $$ Hwk; iintro Hwk
  iapply (wp_ld_zero c zero2) $$ Hwv; iintro Hwv
  iapply (wp_ld_zero c zero2) $$ Hwo; iintro Hwo
  iapply (wp_ld_zero c zero3) $$ Hx; iintro Hx
  rw [wp_ret]; imodintro
  iapply Hc
  isplitl [HO]; · iexists _; iexact HO
  isplitl [Hland]; · iexact Hland
  isplitl [Hz]; · iexact Hz
  isplitl [Hx]; · iexact Hx
  isplitl [Hwq]; · iexact Hwq
  isplitl [Hwo]; · iexact Hwo
  isplitl [Hwk]; · iexact Hwk
  iexact Hwv

/-- The own section stored, sent on, and projected. -/
theorem part2_spec  (c : Dev nD) (v2 : BitVec 32) (v7 : BitVec 32) (v28 : BitVec 32) {Q : (FVec F S256x1024 .bf16) → sProp (MT nD τ sig Unit (Elt F) ℕ UU ℕ)} :
    iprop(recs I K ∗ anySec c xgM (back c 0) ∗ anySec (nxt c) xgM (back c 0) ∗ left c 2 ∗ post c 1 4 ∗ anySec c qgM (back c 0) ∗ anySec c kgM (back c 0))
      ⊢ iprop(((xgOwn I c fullShare.left (back c 0) ∗ due c 1 ∗ left c 3 ∗ secOwn c qgM (back c 0) (qb I c (back c 0)) ∗ secOwn c kgM (back c 0) (kb I c (back c 0))) -∗ Q (k0_pay9 (wvb I c) (xb I (back c 0))))
          -∗ wp frame (wpE (defs₀ (F := F)) 𝒱₀ (c : Thread nD τ) none) Set.univ (k0_part2_skel xM (Memref.isWhole_whole _) wqM (Memref.isWhole_whole _) woM (Memref.isWhole_whole _) wkM (Memref.isWhole_whole _) wvM (Memref.isWhole_whole _) oM (Memref.isWhole_whole _) xgM (Memref.isWhole_whole _) qgM (Memref.isWhole_whole _) kgM (Memref.isWhole_whole _) vgM (Memref.isWhole_whole _) sbM (Memref.isWhole_whole _) rsM (Memref.isWhole_whole _) cc0_scratch6 cc0_scratch7 cc0_scratch8 cc0_scratch9 c v2 v7 (wqb I c) (wkb I c) (wvb I c) (k0_pay5 (I.x c)) v28) Q) := by
  unfold k0_part2_skel
  simp only [Prog.lift, Prog.bind_op, Prog.bind_ret, Prog.pure_eq_ret]
  iintro ⟨#HR, Hx, Hd, HO, Hp, Hq, Hk⟩ Hc
  unfold post
  icases Hp with ⟨Ht, Hat⟩
  iapply (wp_put_sec c (back c 0) (off1_at c)) $$ Hx; iintro Hx
  iapply (wp_send_sec I K c _ (dev3_at c) 1 4 (by decide) (by decide) 2 rfl rfl rfl (back c 0) (off2_at0 c) .rfl
    (Entails.of_eq (congrArg (xgOwn I (nxt c) fullShare) (back_nxt_1 c).symm))) $$ [Hx Hd HO Ht Hat]
  · isplitr; · iexact HR
    isplitl [Hx]
    · unfold xgOwn
      iapply (Entails.of_eq (congrArg (owns (c : Thread nD τ) (sec xgM (back c 0)) fullShare) (show k0_pay6 (k0_pay5 (I.x c)) = xb I (back c 0) by rw [back_zero]; rfl)))
      iexact Hx
    isplitl [Hd]; · iexact Hd
    isplitl [HO]; · iexact HO
    isplitl [Ht]; · iexact Ht
    iexact Hat
  iintro ⟨Hl, Hdue, HO⟩
  unfold xgOwn
  iapply (wp_ld_sec c (off3_at0 c)) $$ Hl; iintro Hl
  iapply (wp_put_sec c (back c 0) (off3_at0 c)) $$ Hq; iintro Hq
  iapply (wp_put_sec c (back c 0) (off3_at0 c)) $$ Hk; iintro Hk
  rw [wp_ret]; imodintro
  iapply Hc
  isplitl [Hl]; · iexact Hl
  isplitl [Hdue]; · iexact Hdue
  isplitl [HO]; · iexact HO
  isplitl [Hq]; · iexact Hq
  iexact Hk

/-- The section one place back received, sent on, and projected. -/
theorem part3_spec  (c : Dev nD) (v2 : BitVec 32) (v7 : BitVec 32) {Q : (Σ' (v86 : BitVec 32) (v88 : Vec F S256x1024 .bf16), FVec F S256x1024 .bf16) → sProp (MT nD τ sig Unit (Elt F) ℕ UU ℕ)} :
    iprop(recs I K ∗ anySec c vgM (back c 0) ∗ due c 4 ∗ anySec (nxt c) xgM (back c 1) ∗ left c 3 ∗ post c 2 5 ∗ anySec c qgM (back c 1))
      ⊢ iprop((∀ v86 : BitVec 32, (xgOwn I c fullShare.left (back c 1) ∗ due c 2 ∗ left c 4 ∗ semVal (kcell (c, 4)) 0 ∗ secOwn c vgM (back c 0) (vb I c (back c 0)) ∗ secOwn c qgM (back c 1) (qb I c (back c 1))) -∗ Q ⟨v86, xb I (back c 1), k0_pay12 (wkb I c) (xb I (back c 1))⟩)
          -∗ wp frame (wpE (defs₀ (F := F)) 𝒱₀ (c : Thread nD τ) none) Set.univ (k0_part3_skel xM (Memref.isWhole_whole _) wqM (Memref.isWhole_whole _) woM (Memref.isWhole_whole _) wkM (Memref.isWhole_whole _) wvM (Memref.isWhole_whole _) oM (Memref.isWhole_whole _) xgM (Memref.isWhole_whole _) qgM (Memref.isWhole_whole _) kgM (Memref.isWhole_whole _) vgM (Memref.isWhole_whole _) sbM (Memref.isWhole_whole _) rsM (Memref.isWhole_whole _) cc0_scratch6 cc0_scratch7 cc0_scratch8 cc0_scratch9 c v2 v7 (wqb I c) (wkb I c) (k0_pay9 (wvb I c) (xb I (back c 0)))) Q) := by
  unfold k0_part3_skel
  simp only [Prog.lift, Prog.bind_op, Prog.bind_ret, Prog.pure_eq_ret]
  iintro ⟨#HR, Hv, Hw, Hd, HO, Hp, Hq⟩ Hc
  unfold post
  icases Hp with ⟨Ht, Hat⟩
  iapply (wp_put_sec c (back c 0) (off3_at0 c)) $$ Hv; iintro Hv
  iapply (wp_wait_due I K c 4 (by decide) 3 (by decide) rfl (View.dmaCredit_closed _ S256x1024 rfl cc0_scratch0.idx rfl _ rfl) (P := xgOwn I c fullShare (back c 1)) .rfl) $$ [Hw HO]
  · isplitr; · iexact HR
    isplitl [Hw]; · iexact Hw
    iexact HO
  iintro ⟨Hx, Hz, HO⟩
  iapply (wp_send_sec I K c _ (dev4_at c) 2 5 (by decide) (by decide) 3 rfl rfl rfl (back c 1) (off2_at1 c) .rfl
    (Entails.of_eq (congrArg (xgOwn I (nxt c) fullShare) (back_nxt_2 c).symm))) $$ [Hx Hd HO Ht Hat]
  · isplitr; · iexact HR
    isplitl [Hx]; · iexact Hx
    isplitl [Hd]; · iexact Hd
    isplitl [HO]; · iexact HO
    isplitl [Ht]; · iexact Ht
    iexact Hat
  iintro ⟨Hl, Hdue, HO⟩
  unfold xgOwn
  iapply (wp_ld_sec c (off3_at1 c)) $$ Hl; iintro Hl
  iapply (wp_put_sec c (back c 1) (off3_at1 c)) $$ Hq; iintro Hq
  rw [wp_ret]; imodintro
  iapply Hc
  isplitl [Hl]; · iexact Hl
  isplitl [Hdue]; · iexact Hdue
  isplitl [HO]; · iexact HO
  isplitl [Hz]; · iexact Hz
  isplitl [Hv]; · iexact Hv
  iexact Hq

/-- The section two places back received and sent on. -/
theorem part4_spec  (c : Dev nD) (v2 : BitVec 32) (v7 : BitVec 32) (v86 : BitVec 32) {Q : (Σ' (v127 : BitVec 32) (v129 : Vec F S256x1024 .bf16) (v130 : FVec F S256x1024 .f32), FVec F S256x1024 .f32) → sProp (MT nD τ sig Unit (Elt F) ℕ UU ℕ)} :
    iprop(recs I K ∗ anySec c kgM (back c 1) ∗ anySec c vgM (back c 1) ∗ due c 5 ∗ anySec (nxt c) xgM (back c 2) ∗ left c 4 ∗ post c 3 6)
      ⊢ iprop((∀ v127 : BitVec 32, (xgOwn I c fullShare.left (back c 2) ∗ due c 3 ∗ left c 5 ∗ semVal (kcell (c, 5)) 0 ∗ secOwn c kgM (back c 1) (kb I c (back c 1)) ∗ secOwn c vgM (back c 1) (vb I c (back c 1))) -∗ Q ⟨v127, xb I (back c 2), k0_pay15 (wqb I c) (xb I (back c 2)), k0_pay16 (F := F)⟩)
          -∗ wp frame (wpE (defs₀ (F := F)) 𝒱₀ (c : Thread nD τ) none) Set.univ (k0_part4_skel xM (Memref.isWhole_whole _) wqM (Memref.isWhole_whole _) woM (Memref.isWhole_whole _) wkM (Memref.isWhole_whole _) wvM (Memref.isWhole_whole _) oM (Memref.isWhole_whole _) xgM (Memref.isWhole_whole _) qgM (Memref.isWhole_whole _) kgM (Memref.isWhole_whole _) vgM (Memref.isWhole_whole _) sbM (Memref.isWhole_whole _) rsM (Memref.isWhole_whole _) cc0_scratch6 cc0_scratch7 cc0_scratch8 cc0_scratch9 c v2 v7 (wqb I c) (wvb I c) v86 (xb I (back c 1)) (k0_pay12 (wkb I c) (xb I (back c 1)))) Q) := by
  unfold k0_part4_skel
  simp only [Prog.lift, Prog.bind_op, Prog.bind_ret, Prog.pure_eq_ret]
  iintro ⟨#HR, Hk, Hv, Hw, Hd, HO, Hp⟩ Hc
  unfold post
  icases Hp with ⟨Ht, Hat⟩
  iapply (wp_put_sec c (back c 1) (off3_at1 c)) $$ Hk; iintro Hk
  iapply (wp_put_sec c (back c 1) (off3_at1 c)) $$ Hv; iintro Hv
  iapply (wp_wait_due I K c 5 (by decide) 4 (by decide) rfl (View.dmaCredit_closed _ S256x1024 rfl cc0_scratch0.idx rfl _ rfl) (P := xgOwn I c fullShare (back c 2)) .rfl) $$ [Hw HO]
  · isplitr; · iexact HR
    isplitl [Hw]; · iexact Hw
    iexact HO
  iintro ⟨Hx, Hz, HO⟩
  iapply (wp_send_sec I K c _ (dev5_at c) 3 6 (by decide) (by decide) 4 rfl rfl rfl (back c 2) (off2_at2 c) .rfl
    (Entails.of_eq (congrArg (xgOwn I (nxt c) fullShare) (back_nxt_3 c).symm))) $$ [Hx Hd HO Ht Hat]
  · isplitr; · iexact HR
    isplitl [Hx]; · iexact Hx
    isplitl [Hd]; · iexact Hd
    isplitl [HO]; · iexact HO
    isplitl [Ht]; · iexact Ht
    iexact Hat
  iintro ⟨Hl, Hdue, HO⟩
  unfold xgOwn
  iapply (wp_ld_sec c (off3_at2 c)) $$ Hl; iintro Hl
  rw [wp_ret]; imodintro
  iapply Hc
  isplitl [Hl]; · iexact Hl
  isplitl [Hdue]; · iexact Hdue
  isplitl [HO]; · iexact HO
  isplitl [Hz]; · iexact Hz
  isplitl [Hk]; · iexact Hk
  iexact Hv

/-- The section three places back received, and projected. -/
theorem part5_spec  (c : Dev nD) (v2 : BitVec 32) (v7 : BitVec 32) (v127 : BitVec 32) {Q : (Σ' (v158 : BitVec 32), Vec F S256x1024 .bf16) → sProp (MT nD τ sig Unit (Elt F) ℕ UU ℕ)} :
    iprop(recs I K ∗ anySec c qgM (back c 2) ∗ anySec c kgM (back c 2) ∗ anySec c vgM (back c 2) ∗ due c 6 ∗ left c 5 ∗ anySec c qgM (back c 3))
      ⊢ iprop((∀ v158 : BitVec 32, (xgOwn I c fullShare (back c 3) ∗ left c 5 ∗ semVal (kcell (c, 6)) 0 ∗ secOwn c qgM (back c 2) (qb I c (back c 2)) ∗ secOwn c kgM (back c 2) (kb I c (back c 2)) ∗ secOwn c vgM (back c 2) (vb I c (back c 2)) ∗ secOwn c qgM (back c 3) (qb I c (back c 3))) -∗ Q ⟨v158, xb I (back c 3)⟩)
          -∗ wp frame (wpE (defs₀ (F := F)) 𝒱₀ (c : Thread nD τ) none) Set.univ (k0_part5_skel xM (Memref.isWhole_whole _) wqM (Memref.isWhole_whole _) woM (Memref.isWhole_whole _) wkM (Memref.isWhole_whole _) wvM (Memref.isWhole_whole _) oM (Memref.isWhole_whole _) xgM (Memref.isWhole_whole _) qgM (Memref.isWhole_whole _) kgM (Memref.isWhole_whole _) vgM (Memref.isWhole_whole _) sbM (Memref.isWhole_whole _) rsM (Memref.isWhole_whole _) cc0_scratch6 cc0_scratch7 cc0_scratch8 cc0_scratch9 c v2 v7 (wqb I c) (wkb I c) (wvb I c) v127 (xb I (back c 2)) (k0_pay15 (wqb I c) (xb I (back c 2))) (k0_pay16 (F := F))) Q) := by
  unfold k0_part5_skel
  simp only [Prog.lift, Prog.bind_op, Prog.bind_ret, Prog.pure_eq_ret]
  iintro ⟨#HR, Hq, Hk, Hv, Hw, HO, Hq3⟩ Hc
  iapply (wp_put_sec c (back c 2) (off3_at2 c)) $$ Hq; iintro Hq
  iapply (wp_put_sec c (back c 2) (off3_at2 c)) $$ Hk; iintro Hk
  iapply (wp_put_sec c (back c 2) (off3_at2 c)) $$ Hv; iintro Hv
  iapply (wp_wait_due I K c 6 (by decide) 5 (by decide) rfl (View.dmaCredit_closed _ S256x1024 rfl cc0_scratch0.idx rfl _ rfl) (P := xgOwn I c fullShare (back c 3)) .rfl) $$ [Hw HO]
  · isplitr; · iexact HR
    isplitl [Hw]; · iexact Hw
    iexact HO
  iintro ⟨Hx, Hz, HO⟩
  unfold xgOwn
  iapply (wp_ld_sec c (off4_at c)) $$ Hx; iintro Hx
  iapply (wp_put_sec c (back c 3) (off4_at c)) $$ Hq3; iintro Hq3
  rw [wp_ret]; imodintro
  iapply Hc
  isplitl [Hx]; · iexact Hx
  isplitl [HO]; · iexact HO
  isplitl [Hz]; · iexact Hz
  isplitl [Hq]; · iexact Hq
  isplitl [Hk]; · iexact Hk
  isplitl [Hv]; · iexact Hv
  iexact Hq3

end Cert.KernelIdealProof

end
-- ==== Proof.KernelIdeal.Attend.lean ====
/-
  The body's other parts: the attention of the four row sections, one head after another, and the running sums that
  travel round the ring.
-/
module

public import proofs.«01_k».proof.Proof.KernelIdeal.Gather

@[expose] public section

noncomputable section

namespace Cert.KernelIdealProof

open Cert.KernelIdeal Cert.KernelIdeal.Gen Cert.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (K : Dev nD × Fin 13 → ℕ)

/-- The three gathered projections. -/
def attOwn (c : Dev nD) : sProp 𝕄 :=
  iprop(owns (c : Thread nD τ) qgM fullShare (qg I c) ∗ owns (c : Thread nD τ) kgM fullShare (kg I c) ∗ owns (c : Thread nD τ) vgM fullShare (vg I c))

/-! ### Storing a whole buffer -/

theorem wp_st_sb {α : Type} {Q : α → sProp (MT nD τ sig Unit (Elt F) ℕ UU ℕ)} (c : Dev nD) {p : ∀ a, (![0, 0] : Fin S256x1024.rank → Nat) a + S256x1024.size a ≤ S256x1024.size a}
    {w X : Vec F S256x1024 .bf16} {hx : ((sbM).access (Rect.unit (s := S256x1024) ![0, 0] S256x1024.size p)).Stores Finset.univ}
    {hm : (Finset.univ : Finset (Rect.unit (s := S256x1024) ![0, 0] S256x1024.size p).shape.Idx) = Finset.univ ∨ ∀ a, (Rect.unit (s := S256x1024) ![0, 0] S256x1024.size p).stride a = 1}
    {k : PUnit → Prog (TpuEff nD τ sig (Elt F) Λ₀ .tc) α} :
    owns (c : Thread nD τ) sbM fullShare X
      ⊢ iprop((owns (c : Thread nD τ) sbM fullShare w -∗ wp frame (wpE (defs₀ (F := F)) 𝒱₀ (c : Thread nD τ) none) Set.univ (k ⟨⟩) Q)
        -∗ wp frame (wpE (defs₀ (F := F)) 𝒱₀ (c : Thread nD τ) none) Set.univ (.op (.store sbM (Rect.unit (s := S256x1024) ![0, 0] S256x1024.size p) w Finset.univ hx hm) k) Q) :=
  wp_st_zero (i := cc0_scratch4.idx) (hκ := rfl) c zero2

theorem wp_st_out {α : Type} {Q : α → sProp (MT nD τ sig Unit (Elt F) ℕ UU ℕ)} (c : Dev nD) {p : ∀ a, (![0, 0, 0] : Fin S1x256x1024.rank → Nat) a + S1x256x1024.size a ≤ S1x256x1024.size a}
    {w X : Vec F S1x256x1024 .f32} {hx : ((oM).access (Rect.unit (s := S1x256x1024) ![0, 0, 0] S1x256x1024.size p)).Stores Finset.univ}
    {hm : (Finset.univ : Finset (Rect.unit (s := S1x256x1024) ![0, 0, 0] S1x256x1024.size p).shape.Idx) = Finset.univ ∨ ∀ a, (Rect.unit (s := S1x256x1024) ![0, 0, 0] S1x256x1024.size p).stride a = 1}
    {k : PUnit → Prog (TpuEff nD τ sig (Elt F) Λ₀ .tc) α} :
    owns (c : Thread nD τ) oM fullShare X
      ⊢ iprop((owns (c : Thread nD τ) oM fullShare w -∗ wp frame (wpE (defs₀ (F := F)) 𝒱₀ (c : Thread nD τ) none) Set.univ (k ⟨⟩) Q)
        -∗ wp frame (wpE (defs₀ (F := F)) 𝒱₀ (c : Thread nD τ) none) Set.univ (.op (.store oM (Rect.unit (s := S1x256x1024) ![0, 0, 0] S1x256x1024.size p) w Finset.univ hx hm) k) Q) :=
  wp_st_zero (i := cc0_stg5_0.idx) (hκ := rfl) c zero3

/-- The result's staging buffer, at any values. -/
abbrev outAny (c : Dev nD) : sProp 𝕄 := iprop(∃ X : Vec F S1x256x1024 .f32, owns (c : Thread nD τ) oM fullShare X)
abbrev sbAny (c : Dev nD) : sProp 𝕄 := iprop(∃ X : Vec F S256x1024 .bf16, owns (c : Thread nD τ) sbM fullShare X)
abbrev slabAny (c : Dev nD) (t : Fin 3) : sProp 𝕄 := iprop(∃ X, slabOwn c t X)

/-- The gathered projections complete; the first head of the section one place back. -/
theorem part6_spec  (c : Dev nD) (v2 : BitVec 32) (v158 : BitVec 32) {Q : (Σ' (v184 : BitVec 32) (v201 : FVec F S256x1024 .f32) (v203 : Vec F S256x128 .bf16), Vec F S1024x128 .bf16) → sProp (MT nD τ sig Unit (Elt F) ℕ UU ℕ)} :
    iprop((secOwn c qgM (back c 0) (qb I c (back c 0)) ∗ secOwn c qgM (back c 1) (qb I c (back c 1)) ∗ secOwn c qgM (back c 2) (qb I c (back c 2)) ∗ secOwn c qgM (back c 3) (qb I c (back c 3))) ∗ (secOwn c kgM (back c 0) (kb I c (back c 0)) ∗ secOwn c kgM (back c 1) (kb I c (back c 1)) ∗ secOwn c kgM (back c 2) (kb I c (back c 2)) ∗ anySec c kgM (back c 3)) ∗ (secOwn c vgM (back c 0) (vb I c (back c 0)) ∗ secOwn c vgM (back c 1) (vb I c (back c 1)) ∗ secOwn c vgM (back c 2) (vb I c (back c 2)) ∗ anySec c vgM (back c 3)))
      ⊢ iprop((∀ v184 : BitVec 32, (attOwn I c) -∗ Q ⟨v184, k0_pay23 (wob I c) (qsub (qg I c) (back c 1) 0) (kvsub (kg I c) 0) (kvsub (vg I c) 0), (qsub (qg I c) (back c 1) 1), (kvsub (kg I c) 1)⟩)
          -∗ wp frame (wpE (defs₀ (F := F)) 𝒱₀ (c : Thread nD τ) none) Set.univ (k0_part6_skel xM (Memref.isWhole_whole _) wqM (Memref.isWhole_whole _) woM (Memref.isWhole_whole _) wkM (Memref.isWhole_whole _) wvM (Memref.isWhole_whole _) oM (Memref.isWhole_whole _) xgM (Memref.isWhole_whole _) qgM (Memref.isWhole_whole _) kgM (Memref.isWhole_whole _) vgM (Memref.isWhole_whole _) sbM (Memref.isWhole_whole _) rsM (Memref.isWhole_whole _) cc0_scratch6 cc0_scratch7 cc0_scratch8 cc0_scratch9 c v2 (wkb I c) (wvb I c) (wob I c) v158 (xb I (back c 3))) Q) := by
  unfold k0_part6_skel
  simp only [Prog.lift, Prog.bind_op, Prog.bind_ret, Prog.pure_eq_ret]
  unfold attOwn qg kg vg
  iintro ⟨⟨Hq0, Hq1, Hq2, Hq3⟩, ⟨Hk0, Hk1, Hk2, Hk3⟩, ⟨Hv0, Hv1, Hv2, Hv3⟩⟩ Hc
  iapply (wp_put_sec c (back c 3) (off4_at c)) $$ Hk3; iintro Hk3
  iapply (wp_put_sec c (back c 3) (off4_at c)) $$ Hv3; iintro Hv3
  ihave Hq := (join_sections c qgM (qb I c)) $$ [Hq0 Hq1 Hq2 Hq3]
  · isplitl [Hq0]; · iexact Hq0
    isplitl [Hq1]; · iexact Hq1
    isplitl [Hq2]; · iexact Hq2
    iexact Hq3
  ihave Hk := (join_sections c kgM (kb I c)) $$ [Hk0 Hk1 Hk2 Hk3]
  · isplitl [Hk0]; · iexact Hk0
    isplitl [Hk1]; · iexact Hk1
    isplitl [Hk2]; · iexact Hk2
    iexact Hk3
  ihave Hv := (join_sections c vgM (vb I c)) $$ [Hv0 Hv1 Hv2 Hv3]
  · isplitl [Hv0]; · iexact Hv0
    isplitl [Hv1]; · iexact Hv1
    isplitl [Hv2]; · iexact Hv2
    iexact Hv3
  iapply (wp_ld_q c (back c 1) 0 (off5_at c 0)) $$ Hq; iintro Hq
  iapply (wp_ld_kv c 0 rfl) $$ Hk; iintro Hk
  iapply (wp_ld_kv c 0 rfl) $$ Hv; iintro Hv
  iapply (wp_ld_q c (back c 1) 1 (off6_at c 0)) $$ Hq; iintro Hq
  iapply (wp_ld_kv c 1 rfl) $$ Hk; iintro Hk
  rw [wp_ret]; imodintro
  iapply Hc
  isplitl [Hq]; · iexact Hq
  isplitl [Hk]; · iexact Hk
  iexact Hv

/-- Heads 1 to 3 of the section one place back. -/
theorem part7_spec  (c : Dev nD) (v184 : BitVec 32) {Q : (Σ' (v237 : FVec F S256x1024 .f32) (v241 : Vec F S1024x128 .bf16), FVec F S256x1024 .f32) → sProp (MT nD τ sig Unit (Elt F) ℕ UU ℕ)} :
    iprop(attOwn I c)
      ⊢ iprop(((attOwn I c) -∗ Q ⟨(k0_pay24 (wob I c) (att0 (wob I c) (qg I c) (kg I c) (vg I c) (back c 1)) (qsub (qg I c) (back c 1) 1) (kvsub (kg I c) 1) (kvsub (vg I c) 1) (qsub (qg I c) (back c 1) 2) (kvsub (kg I c) 2) (kvsub (vg I c) 2)), (kvsub (vg I c) 3), (k0_pay25 (qsub (qg I c) (back c 1) 3) (kvsub (kg I c) 3))⟩)
          -∗ wp frame (wpE (defs₀ (F := F)) 𝒱₀ (c : Thread nD τ) none) Set.univ (k0_part7_skel xM (Memref.isWhole_whole _) wqM (Memref.isWhole_whole _) woM (Memref.isWhole_whole _) wkM (Memref.isWhole_whole _) wvM (Memref.isWhole_whole _) oM (Memref.isWhole_whole _) xgM (Memref.isWhole_whole _) qgM (Memref.isWhole_whole _) kgM (Memref.isWhole_whole _) vgM (Memref.isWhole_whole _) sbM (Memref.isWhole_whole _) rsM (Memref.isWhole_whole _) cc0_scratch6 cc0_scratch7 cc0_scratch8 cc0_scratch9 c (wob I c) v184 (att0 (wob I c) (qg I c) (kg I c) (vg I c) (back c 1)) (qsub (qg I c) (back c 1) 1) (kvsub (kg I c) 1)) Q) := by
  unfold k0_part7_skel
  simp only [Prog.lift, Prog.bind_op, Prog.bind_ret, Prog.pure_eq_ret]
  unfold attOwn
  iintro ⟨Hq, Hk, Hv⟩ Hc
  iapply (wp_ld_kv c 1 rfl) $$ Hv; iintro Hv
  iapply (wp_ld_q c (back c 1) 2 (off7_at c 0)) $$ Hq; iintro Hq
  iapply (wp_ld_kv c 2 rfl) $$ Hk; iintro Hk
  iapply (wp_ld_kv c 2 rfl) $$ Hv; iintro Hv
  iapply (wp_ld_q c (back c 1) 3 (off8_at c 0)) $$ Hq; iintro Hq
  iapply (wp_ld_kv c 3 rfl) $$ Hk; iintro Hk
  iapply (wp_ld_kv c 3 rfl) $$ Hv; iintro Hv
  rw [wp_ret]; imodintro
  iapply Hc
  isplitl [Hq]; · iexact Hq
  isplitl [Hk]; · iexact Hk
  iexact Hv

/-- Heads 4 and 5. -/
theorem part8_spec  (c : Dev nD) (v184 : BitVec 32) {Q : (Σ' (v273 : FVec F S256x1024 .f32) (v277 : Vec F S1024x128 .bf16) (v279 : FVec F S256x1024 .f32), FVec F S256x1 .f32) → sProp (MT nD τ sig Unit (Elt F) ℕ UU ℕ)} :
    iprop(attOwn I c)
      ⊢ iprop(((attOwn I c) -∗ Q ⟨(k0_pay26 (wob I c) (att2 (wob I c) (qg I c) (kg I c) (vg I c) (back c 1)) (kvsub (vg I c) 3) (k0_pay25 (qsub (qg I c) (back c 1) 3) (kvsub (kg I c) 3)) (qsub (qg I c) (back c 1) 4) (kvsub (kg I c) 4) (kvsub (vg I c) 4)), (kvsub (vg I c) 5), (k0_pay27 (qsub (qg I c) (back c 1) 5) (kvsub (kg I c) 5)), (k0_pay28 (qsub (qg I c) (back c 1) 5) (kvsub (kg I c) 5))⟩)
          -∗ wp frame (wpE (defs₀ (F := F)) 𝒱₀ (c : Thread nD τ) none) Set.univ (k0_part8_skel xM (Memref.isWhole_whole _) wqM (Memref.isWhole_whole _) woM (Memref.isWhole_whole _) wkM (Memref.isWhole_whole _) wvM (Memref.isWhole_whole _) oM (Memref.isWhole_whole _) xgM (Memref.isWhole_whole _) qgM (Memref.isWhole_whole _) kgM (Memref.isWhole_whole _) vgM (Memref.isWhole_whole _) sbM (Memref.isWhole_whole _) rsM (Memref.isWhole_whole _) cc0_scratch6 cc0_scratch7 cc0_scratch8 cc0_scratch9 c (wob I c) v184 (att2 (wob I c) (qg I c) (kg I c) (vg I c) (back c 1)) (kvsub (vg I c) 3) (k0_pay25 (qsub (qg I c) (back c 1) 3) (kvsub (kg I c) 3))) Q) := by
  unfold k0_part8_skel
  simp only [Prog.lift, Prog.bind_op, Prog.bind_ret, Prog.pure_eq_ret]
  unfold attOwn
  iintro ⟨Hq, Hk, Hv⟩ Hc
  iapply (wp_ld_q c (back c 1) 4 (off9_at c 0)) $$ Hq; iintro Hq
  iapply (wp_ld_kv c 4 rfl) $$ Hk; iintro Hk
  iapply (wp_ld_kv c 4 rfl) $$ Hv; iintro Hv
  iapply (wp_ld_q c (back c 1) 5 (off10_at c 0)) $$ Hq; iintro Hq
  iapply (wp_ld_kv c 5 rfl) $$ Hk; iintro Hk
  iapply (wp_ld_kv c 5 rfl) $$ Hv; iintro Hv
  rw [wp_ret]; imodintro
  iapply Hc
  isplitl [Hq]; · iexact Hq
  isplitl [Hk]; · iexact Hk
  iexact Hv

/-- Heads 6 and 7. -/
theorem part9_spec  (c : Dev nD) (v184 : BitVec 32) {Q : (Σ' (v309 : FVec F S256x1024 .f32) (v313 : Vec F S1024x128 .bf16) (v319 : FVec F S256x1 .f32), FVec F S256x1024 .bf16) → sProp (MT nD τ sig Unit (Elt F) ℕ UU ℕ)} :
    iprop(attOwn I c)
      ⊢ iprop(((attOwn I c) -∗ Q ⟨(k0_pay29 (wob I c) (att4 (wob I c) (qg I c) (kg I c) (vg I c) (back c 1)) (kvsub (vg I c) 5) (k0_pay27 (qsub (qg I c) (back c 1) 5) (kvsub (kg I c) 5)) (k0_pay28 (qsub (qg I c) (back c 1) 5) (kvsub (kg I c) 5)) (qsub (qg I c) (back c 1) 6) (kvsub (kg I c) 6) (kvsub (vg I c) 6)), (kvsub (vg I c) 7), (k0_pay31 (qsub (qg I c) (back c 1) 7) (kvsub (kg I c) 7)), (k0_pay32 (qsub (qg I c) (back c 1) 7) (kvsub (kg I c) 7))⟩)
          -∗ wp frame (wpE (defs₀ (F := F)) 𝒱₀ (c : Thread nD τ) none) Set.univ (k0_part9_skel xM (Memref.isWhole_whole _) wqM (Memref.isWhole_whole _) woM (Memref.isWhole_whole _) wkM (Memref.isWhole_whole _) wvM (Memref.isWhole_whole _) oM (Memref.isWhole_whole _) xgM (Memref.isWhole_whole _) qgM (Memref.isWhole_whole _) kgM (Memref.isWhole_whole _) vgM (Memref.isWhole_whole _) sbM (Memref.isWhole_whole _) rsM (Memref.isWhole_whole _) cc0_scratch6 cc0_scratch7 cc0_scratch8 cc0_scratch9 c (wob I c) v184 (att4 (wob I c) (qg I c) (kg I c) (vg I c) (back c 1)) (kvsub (vg I c) 5) (k0_pay27 (qsub (qg I c) (back c 1) 5) (kvsub (kg I c) 5)) (k0_pay28 (qsub (qg I c) (back c 1) 5) (kvsub (kg I c) 5))) Q) := by
  unfold k0_part9_skel
  simp only [Prog.lift, Prog.bind_op, Prog.bind_ret, Prog.pure_eq_ret]
  unfold attOwn
  iintro ⟨Hq, Hk, Hv⟩ Hc
  iapply (wp_ld_q c (back c 1) 6 (off11_at c 0)) $$ Hq; iintro Hq
  iapply (wp_ld_kv c 6 rfl) $$ Hk; iintro Hk
  iapply (wp_ld_kv c 6 rfl) $$ Hv; iintro Hv
  iapply (wp_ld_q c (back c 1) 7 (off12_at c 0)) $$ Hq; iintro Hq
  iapply (wp_ld_kv c 7 rfl) $$ Hk; iintro Hk
  iapply (wp_ld_kv c 7 rfl) $$ Hv; iintro Hv
  rw [wp_ret]; imodintro
  iapply Hc
  isplitl [Hq]; · iexact Hq
  isplitl [Hk]; · iexact Hk
  iexact Hv

/-- The first running sum stored and sent on; head 0 of the section two places back. -/
theorem part10_spec  (c : Dev nD) (v2 : BitVec 32) (v7 : BitVec 32) {Q : (Σ' (v343 : BitVec 32) (v347 : Vec F S1024x128 .bf16) (v353 : FVec F S256x1 .f32) (v354 : FVec F S256x1024 .bf16), FVec F S256x128 .f32) → sProp (MT nD τ sig Unit (Elt F) ℕ UU ℕ)} :
    iprop(recs I K ∗ sbAny c ∗ slabAny (nxt c) 0 ∗ left c 5 ∗ post c 7 10 ∗ attOwn I c)
      ⊢ iprop((∀ v343 : BitVec 32, (due c 7 ∗ left c 6 ∗ attOwn I c) -∗ Q ⟨v343, (kvsub (vg I c) 0), (k0_pay35 (qsub (qg I c) (back c 2) 0) (kvsub (kg I c) 0)), (k0_pay36 (qsub (qg I c) (back c 2) 0) (kvsub (kg I c) 0)), constant S256x128 .f32 0x00000000#32⟩)
          -∗ wp frame (wpE (defs₀ (F := F)) 𝒱₀ (c : Thread nD τ) none) Set.univ (k0_part10_skel xM (Memref.isWhole_whole _) wqM (Memref.isWhole_whole _) woM (Memref.isWhole_whole _) wkM (Memref.isWhole_whole _) wvM (Memref.isWhole_whole _) oM (Memref.isWhole_whole _) xgM (Memref.isWhole_whole _) qgM (Memref.isWhole_whole _) kgM (Memref.isWhole_whole _) vgM (Memref.isWhole_whole _) sbM (Memref.isWhole_whole _) rsM (Memref.isWhole_whole _) cc0_scratch6 cc0_scratch7 cc0_scratch8 cc0_scratch9 c v2 v7 (wob I c) (att6 (wob I c) (qg I c) (kg I c) (vg I c) (back c 1)) (kvsub (vg I c) 7) (k0_pay31 (qsub (qg I c) (back c 1) 7) (kvsub (kg I c) 7)) (k0_pay32 (qsub (qg I c) (back c 1) 7) (kvsub (kg I c) 7))) Q) := by
  unfold k0_part10_skel
  simp only [Prog.lift, Prog.bind_op, Prog.bind_ret, Prog.pure_eq_ret]
  unfold attOwn post
  iintro ⟨#HR, ⟨%X, Hb⟩, Hd, HO, ⟨Ht, Hat⟩, Hq, Hk, Hv⟩ Hc
  iapply (wp_ld_zero c zero2) $$ Hb; iintro Hb
  iapply (wp_st_sb c) $$ Hb; iintro Hb
  iapply (wp_send_sum I K c _ (dev6_at c) 7 10 (by decide) (by decide) 5 rfl rfl rfl 0 rfl (X := sum0 I c) (P := sbOwn c (sum0 I c)) .rfl .rfl
    (Entails.of_eq (congrArg (fun d => slabOwn (nxt c) 0 (sum0 I d)) (prv_nxt c).symm))) $$ [Hb Hd HO Ht Hat]
  · isplitr; · iexact HR
    isplitl [Hb]
    · unfold sbOwn
      iapply (Entails.of_eq (congrArg (owns (c : Thread nD τ) sbM fullShare) (pay33_eq (wob I c) (qg I c) (kg I c) (vg I c) (back c 1))))
      iexact Hb
    isplitl [Hd]; · iexact Hd
    isplitl [HO]; · iexact HO
    isplitl [Ht]; · iexact Ht
    iexact Hat
  iintro ⟨Hdue, HO⟩
  iapply (wp_ld_q c (back c 2) 0 (off5_at c 1)) $$ Hq; iintro Hq
  iapply (wp_ld_kv c 0 rfl) $$ Hk; iintro Hk
  iapply (wp_ld_kv c 0 rfl) $$ Hv; iintro Hv
  rw [wp_ret]; imodintro
  iapply Hc
  isplitl [Hdue]; · iexact Hdue
  isplitl [HO]; · iexact HO
  isplitl [Hq]; · iexact Hq
  isplitl [Hk]; · iexact Hk
  iexact Hv

/-- Heads 1 and 2. -/
theorem part11_spec  (c : Dev nD) (v343 : BitVec 32) {Q : (Σ' (v378 : FVec F S256x1024 .f32) (v393 : FVec F S256x128 .bf16), FVec F S128x1024 .bf16) → sProp (MT nD τ sig Unit (Elt F) ℕ UU ℕ)} :
    iprop(attOwn I c)
      ⊢ iprop(((attOwn I c) -∗ Q ⟨(k0_pay37 (wob I c) (kvsub (vg I c) 0) (k0_pay35 (qsub (qg I c) (back c 2) 0) (kvsub (kg I c) 0)) (k0_pay36 (qsub (qg I c) (back c 2) 0) (kvsub (kg I c) 0)) (constant S256x128 .f32 0x00000000#32) (qsub (qg I c) (back c 2) 1) (kvsub (kg I c) 1) (kvsub (vg I c) 1)), (k0_pay38 (qsub (qg I c) (back c 2) 2) (kvsub (kg I c) 2) (kvsub (vg I c) 2)), (k0_pay39 (wob I c))⟩)
          -∗ wp frame (wpE (defs₀ (F := F)) 𝒱₀ (c : Thread nD τ) none) Set.univ (k0_part11_skel xM (Memref.isWhole_whole _) wqM (Memref.isWhole_whole _) woM (Memref.isWhole_whole _) wkM (Memref.isWhole_whole _) wvM (Memref.isWhole_whole _) oM (Memref.isWhole_whole _) xgM (Memref.isWhole_whole _) qgM (Memref.isWhole_whole _) kgM (Memref.isWhole_whole _) vgM (Memref.isWhole_whole _) sbM (Memref.isWhole_whole _) rsM (Memref.isWhole_whole _) cc0_scratch6 cc0_scratch7 cc0_scratch8 cc0_scratch9 c (wob I c) v343 (kvsub (vg I c) 0) (k0_pay35 (qsub (qg I c) (back c 2) 0) (kvsub (kg I c) 0)) (k0_pay36 (qsub (qg I c) (back c 2) 0) (kvsub (kg I c) 0)) (constant S256x128 .f32 0x00000000#32)) Q) := by
  unfold k0_part11_skel
  simp only [Prog.lift, Prog.bind_op, Prog.bind_ret, Prog.pure_eq_ret]
  unfold attOwn
  iintro ⟨Hq, Hk, Hv⟩ Hc
  iapply (wp_ld_q c (back c 2) 1 (off6_at c 1)) $$ Hq; iintro Hq
  iapply (wp_ld_kv c 1 rfl) $$ Hk; iintro Hk
  iapply (wp_ld_kv c 1 rfl) $$ Hv; iintro Hv
  iapply (wp_ld_q c (back c 2) 2 (off7_at c 1)) $$ Hq; iintro Hq
  iapply (wp_ld_kv c 2 rfl) $$ Hk; iintro Hk
  iapply (wp_ld_kv c 2 rfl) $$ Hv; iintro Hv
  rw [wp_ret]; imodintro
  iapply Hc
  isplitl [Hq]; · iexact Hq
  isplitl [Hk]; · iexact Hk
  iexact Hv

/-- Heads 3 and 4. -/
theorem part12_spec  (c : Dev nD) (v343 : BitVec 32) {Q : (FVec F S256x1024 .f32) → sProp (MT nD τ sig Unit (Elt F) ℕ UU ℕ)} :
    iprop(attOwn I c)
      ⊢ iprop(((attOwn I c) -∗ Q (k0_pay40 (wob I c) (att1 (wob I c) (qg I c) (kg I c) (vg I c) (back c 2)) (k0_pay38 (qsub (qg I c) (back c 2) 2) (kvsub (kg I c) 2) (kvsub (vg I c) 2)) (k0_pay39 (wob I c)) (qsub (qg I c) (back c 2) 3) (kvsub (kg I c) 3) (kvsub (vg I c) 3) (qsub (qg I c) (back c 2) 4) (kvsub (kg I c) 4) (kvsub (vg I c) 4)))
          -∗ wp frame (wpE (defs₀ (F := F)) 𝒱₀ (c : Thread nD τ) none) Set.univ (k0_part12_skel xM (Memref.isWhole_whole _) wqM (Memref.isWhole_whole _) woM (Memref.isWhole_whole _) wkM (Memref.isWhole_whole _) wvM (Memref.isWhole_whole _) oM (Memref.isWhole_whole _) xgM (Memref.isWhole_whole _) qgM (Memref.isWhole_whole _) kgM (Memref.isWhole_whole _) vgM (Memref.isWhole_whole _) sbM (Memref.isWhole_whole _) rsM (Memref.isWhole_whole _) cc0_scratch6 cc0_scratch7 cc0_scratch8 cc0_scratch9 c (wob I c) v343 (att1 (wob I c) (qg I c) (kg I c) (vg I c) (back c 2)) (k0_pay38 (qsub (qg I c) (back c 2) 2) (kvsub (kg I c) 2) (kvsub (vg I c) 2)) (k0_pay39 (wob I c))) Q) := by
  unfold k0_part12_skel
  simp only [Prog.lift, Prog.bind_op, Prog.bind_ret, Prog.pure_eq_ret]
  unfold attOwn
  iintro ⟨Hq, Hk, Hv⟩ Hc
  iapply (wp_ld_q c (back c 2) 3 (off8_at c 1)) $$ Hq; iintro Hq
  iapply (wp_ld_kv c 3 rfl) $$ Hk; iintro Hk
  iapply (wp_ld_kv c 3 rfl) $$ Hv; iintro Hv
  iapply (wp_ld_q c (back c 2) 4 (off9_at c 1)) $$ Hq; iintro Hq
  iapply (wp_ld_kv c 4 rfl) $$ Hk; iintro Hk
  iapply (wp_ld_kv c 4 rfl) $$ Hv; iintro Hv
  rw [wp_ret]; imodintro
  iapply Hc
  isplitl [Hq]; · iexact Hq
  isplitl [Hk]; · iexact Hk
  iexact Hv

/-- Heads 5 to 7. -/
theorem part13_spec  (c : Dev nD) (v343 : BitVec 32) {Q : (Σ' (v468 : FVec F S256x1024 .f32), Vec F S256x128 .bf16) → sProp (MT nD τ sig Unit (Elt F) ℕ UU ℕ)} :
    iprop(attOwn I c)
      ⊢ iprop(((attOwn I c) -∗ Q ⟨(k0_pay41 (wob I c) (att4 (wob I c) (qg I c) (kg I c) (vg I c) (back c 2)) (qsub (qg I c) (back c 2) 5) (kvsub (kg I c) 5) (kvsub (vg I c) 5) (qsub (qg I c) (back c 2) 6) (kvsub (kg I c) 6) (kvsub (vg I c) 6)), (qsub (qg I c) (back c 2) 7)⟩)
          -∗ wp frame (wpE (defs₀ (F := F)) 𝒱₀ (c : Thread nD τ) none) Set.univ (k0_part13_skel xM (Memref.isWhole_whole _) wqM (Memref.isWhole_whole _) woM (Memref.isWhole_whole _) wkM (Memref.isWhole_whole _) wvM (Memref.isWhole_whole _) oM (Memref.isWhole_whole _) xgM (Memref.isWhole_whole _) qgM (Memref.isWhole_whole _) kgM (Memref.isWhole_whole _) vgM (Memref.isWhole_whole _) sbM (Memref.isWhole_whole _) rsM (Memref.isWhole_whole _) cc0_scratch6 cc0_scratch7 cc0_scratch8 cc0_scratch9 c (wob I c) v343 (att4 (wob I c) (qg I c) (kg I c) (vg I c) (back c 2))) Q) := by
  unfold k0_part13_skel
  simp only [Prog.lift, Prog.bind_op, Prog.bind_ret, Prog.pure_eq_ret]
  unfold attOwn
  iintro ⟨Hq, Hk, Hv⟩ Hc
  iapply (wp_ld_q c (back c 2) 5 (off10_at c 1)) $$ Hq; iintro Hq
  iapply (wp_ld_kv c 5 rfl) $$ Hk; iintro Hk
  iapply (wp_ld_kv c 5 rfl) $$ Hv; iintro Hv
  iapply (wp_ld_q c (back c 2) 6 (off11_at c 1)) $$ Hq; iintro Hq
  iapply (wp_ld_kv c 6 rfl) $$ Hk; iintro Hk
  iapply (wp_ld_kv c 6 rfl) $$ Hv; iintro Hv
  iapply (wp_ld_q c (back c 2) 7 (off12_at c 1)) $$ Hq; iintro Hq
  rw [wp_ret]; imodintro
  iapply Hc
  isplitl [Hq]; · iexact Hq
  isplitl [Hk]; · iexact Hk
  iexact Hv

/-- The received sum with this device's part added. -/
theorem part14_spec  (c : Dev nD) (v7 : BitVec 32) {Q : (PUnit) → sProp (MT nD τ sig Unit (Elt F) ℕ UU ℕ)} :
    iprop(recs I K ∗ due c 10 ∗ left c 6 ∗ attOwn I c)
      ⊢ iprop(((slabOwn c 0 (sum1 I c) ∗ left c 6 ∗ semVal (kcell (c, 10)) 0 ∗ attOwn I c) -∗ Q ⟨⟩)
          -∗ wp frame (wpE (defs₀ (F := F)) 𝒱₀ (c : Thread nD τ) none) Set.univ (k0_part14_skel xM (Memref.isWhole_whole _) wqM (Memref.isWhole_whole _) woM (Memref.isWhole_whole _) wkM (Memref.isWhole_whole _) wvM (Memref.isWhole_whole _) oM (Memref.isWhole_whole _) xgM (Memref.isWhole_whole _) qgM (Memref.isWhole_whole _) kgM (Memref.isWhole_whole _) vgM (Memref.isWhole_whole _) sbM (Memref.isWhole_whole _) rsM (Memref.isWhole_whole _) cc0_scratch6 cc0_scratch7 cc0_scratch8 cc0_scratch9 v7 (wob I c) (att6 (wob I c) (qg I c) (kg I c) (vg I c) (back c 2)) (qsub (qg I c) (back c 2) 7)) Q) := by
  unfold k0_part14_skel
  simp only [Prog.lift, Prog.bind_op, Prog.bind_ret, Prog.pure_eq_ret]
  unfold attOwn
  iintro ⟨#HR, Hw, HO, Hq, Hk, Hv⟩ Hc
  iapply (wp_ld_kv c 7 rfl) $$ Hk; iintro Hk
  iapply (wp_ld_kv c 7 rfl) $$ Hv; iintro Hv
  iapply (wp_wait_due I K c 10 (by decide) 6 (by decide) rfl (View.dmaCredit_closed _ S256x1024 rfl cc0_scratch5.idx rfl _ rfl) (P := slabOwn c 0 (sum0 I (prv c))) .rfl) $$ [Hw HO]
  · isplitr; · iexact HR
    isplitl [Hw]; · iexact Hw
    iexact HO
  iintro ⟨Hs, Hz, HO⟩
  iapply (wp_ld_slab c 0 rfl) $$ Hs; iintro Hs
  iapply (wp_ld_slab c 0 rfl) $$ Hs; iintro Hs
  iapply (wp_st_slab c 0 rfl (Y := sum1 I c) (by rw [pay42_eq (wob I c) (qg I c) (kg I c) (vg I c) (back c 2), unlead]; rfl)) $$ Hs; iintro Hs
  rw [wp_ret]; imodintro
  iapply Hc
  isplitl [Hs]; · iexact Hs
  isplitl [HO]; · iexact HO
  isplitl [Hz]; · iexact Hz
  isplitl [Hq]; · iexact Hq
  isplitl [Hk]; · iexact Hk
  iexact Hv

/-- The second running sum sent on; heads 0 and 1 of the section three places back. -/
theorem part15_spec  (c : Dev nD) (v2 : BitVec 32) {Q : (Σ' (v514 : BitVec 32) (v531 : FVec F S256x1024 .f32) (v535 : Vec F S1024x128 .bf16), FVec F S256x1024 .f32) → sProp (MT nD τ sig Unit (Elt F) ℕ UU ℕ)} :
    iprop(recs I K ∗ slabOwn c 0 (sum1 I c) ∗ slabAny (nxt c) 1 ∗ left c 6 ∗ post c 8 11 ∗ attOwn I c)
      ⊢ iprop((∀ v514 : BitVec 32, (due c 8 ∗ left c 7 ∗ attOwn I c) -∗ Q ⟨v514, (k0_pay43 (wob I c) (qsub (qg I c) (back c 3) 0) (kvsub (kg I c) 0) (kvsub (vg I c) 0)), (kvsub (vg I c) 1), (k0_pay44 (qsub (qg I c) (back c 3) 1) (kvsub (kg I c) 1))⟩)
          -∗ wp frame (wpE (defs₀ (F := F)) 𝒱₀ (c : Thread nD τ) none) Set.univ (k0_part15_skel xM (Memref.isWhole_whole _) wqM (Memref.isWhole_whole _) woM (Memref.isWhole_whole _) wkM (Memref.isWhole_whole _) wvM (Memref.isWhole_whole _) oM (Memref.isWhole_whole _) xgM (Memref.isWhole_whole _) qgM (Memref.isWhole_whole _) kgM (Memref.isWhole_whole _) vgM (Memref.isWhole_whole _) sbM (Memref.isWhole_whole _) rsM (Memref.isWhole_whole _) cc0_scratch6 cc0_scratch7 cc0_scratch8 cc0_scratch9 c v2 (wob I c)) Q) := by
  unfold k0_part15_skel
  simp only [Prog.lift, Prog.bind_op, Prog.bind_ret, Prog.pure_eq_ret]
  unfold attOwn post
  iintro ⟨#HR, Hs, Hd, HO, ⟨Ht, Hat⟩, Hq, Hk, Hv⟩ Hc
  iapply (wp_send_sum I K c _ (dev7_at c) 8 11 (by decide) (by decide) 6 rfl rfl rfl 1 rfl (X := sum1 I c) (P := slabOwn c 0 (sum1 I c)) .rfl .rfl
    (Entails.of_eq (congrArg (fun d => slabOwn (nxt c) 1 (sum1 I d)) (prv_nxt c).symm))) $$ [Hs Hd HO Ht Hat]
  · isplitr; · iexact HR
    isplitl [Hs]; · iexact Hs
    isplitl [Hd]; · iexact Hd
    isplitl [HO]; · iexact HO
    isplitl [Ht]; · iexact Ht
    iexact Hat
  iintro ⟨Hdue, HO⟩
  iapply (wp_ld_q c (back c 3) 0 (off5_at c 2)) $$ Hq; iintro Hq
  iapply (wp_ld_kv c 0 rfl) $$ Hk; iintro Hk
  iapply (wp_ld_kv c 0 rfl) $$ Hv; iintro Hv
  iapply (wp_ld_q c (back c 3) 1 (off6_at c 2)) $$ Hq; iintro Hq
  iapply (wp_ld_kv c 1 rfl) $$ Hk; iintro Hk
  iapply (wp_ld_kv c 1 rfl) $$ Hv; iintro Hv
  rw [wp_ret]; imodintro
  iapply Hc
  isplitl [Hdue]; · iexact Hdue
  isplitl [HO]; · iexact HO
  isplitl [Hq]; · iexact Hq
  isplitl [Hk]; · iexact Hk
  iexact Hv

/-- Heads 2 and 3. -/
theorem part16_spec  (c : Dev nD) (v514 : BitVec 32) {Q : (Σ' (v567 : FVec F S256x1024 .f32) (v571 : Vec F S1024x128 .bf16) (v573 : FVec F S256x1024 .f32) (v575 : FVec F S256x1 .f32), F .f32) → sProp (MT nD τ sig Unit (Elt F) ℕ UU ℕ)} :
    iprop(attOwn I c)
      ⊢ iprop(((attOwn I c) -∗ Q ⟨(k0_pay45 (wob I c) (att0 (wob I c) (qg I c) (kg I c) (vg I c) (back c 3)) (kvsub (vg I c) 1) (k0_pay44 (qsub (qg I c) (back c 3) 1) (kvsub (kg I c) 1)) (qsub (qg I c) (back c 3) 2) (kvsub (kg I c) 2) (kvsub (vg I c) 2)), (kvsub (vg I c) 3), (k0_pay46 (qsub (qg I c) (back c 3) 3) (kvsub (kg I c) 3)), (k0_pay47 (qsub (qg I c) (back c 3) 3) (kvsub (kg I c) 3)), (Scalar.ofBits .f32 0x3F800000#32)⟩)
          -∗ wp frame (wpE (defs₀ (F := F)) 𝒱₀ (c : Thread nD τ) none) Set.univ (k0_part16_skel xM (Memref.isWhole_whole _) wqM (Memref.isWhole_whole _) woM (Memref.isWhole_whole _) wkM (Memref.isWhole_whole _) wvM (Memref.isWhole_whole _) oM (Memref.isWhole_whole _) xgM (Memref.isWhole_whole _) qgM (Memref.isWhole_whole _) kgM (Memref.isWhole_whole _) vgM (Memref.isWhole_whole _) sbM (Memref.isWhole_whole _) rsM (Memref.isWhole_whole _) cc0_scratch6 cc0_scratch7 cc0_scratch8 cc0_scratch9 c (wob I c) v514 (att0 (wob I c) (qg I c) (kg I c) (vg I c) (back c 3)) (kvsub (vg I c) 1) (k0_pay44 (qsub (qg I c) (back c 3) 1) (kvsub (kg I c) 1))) Q) := by
  unfold k0_part16_skel
  simp only [Prog.lift, Prog.bind_op, Prog.bind_ret, Prog.pure_eq_ret]
  unfold attOwn
  iintro ⟨Hq, Hk, Hv⟩ Hc
  iapply (wp_ld_q c (back c 3) 2 (off7_at c 2)) $$ Hq; iintro Hq
  iapply (wp_ld_kv c 2 rfl) $$ Hk; iintro Hk
  iapply (wp_ld_kv c 2 rfl) $$ Hv; iintro Hv
  iapply (wp_ld_q c (back c 3) 3 (off8_at c 2)) $$ Hq; iintro Hq
  iapply (wp_ld_kv c 3 rfl) $$ Hk; iintro Hk
  iapply (wp_ld_kv c 3 rfl) $$ Hv; iintro Hv
  rw [wp_ret]; imodintro
  iapply Hc
  isplitl [Hq]; · iexact Hq
  isplitl [Hk]; · iexact Hk
  iexact Hv

/-- Heads 4 and 5. -/
theorem part17_spec  (c : Dev nD) (v514 : BitVec 32) {Q : (Σ' (v603 : FVec F S256x1024 .f32) (v607 : Vec F S1024x128 .bf16) (v613 : FVec F S256x1 .f32) (v614 : FVec F S256x1024 .bf16), FVec F S256x128 .f32) → sProp (MT nD τ sig Unit (Elt F) ℕ UU ℕ)} :
    iprop(attOwn I c)
      ⊢ iprop(((attOwn I c) -∗ Q ⟨(k0_pay48 (wob I c) (att2 (wob I c) (qg I c) (kg I c) (vg I c) (back c 3)) (kvsub (vg I c) 3) (k0_pay46 (qsub (qg I c) (back c 3) 3) (kvsub (kg I c) 3)) (k0_pay47 (qsub (qg I c) (back c 3) 3) (kvsub (kg I c) 3)) (Scalar.ofBits .f32 0x3F800000#32) (qsub (qg I c) (back c 3) 4) (kvsub (kg I c) 4) (kvsub (vg I c) 4)), (kvsub (vg I c) 5), (k0_pay50 (qsub (qg I c) (back c 3) 5) (kvsub (kg I c) 5)), (k0_pay51 (qsub (qg I c) (back c 3) 5) (kvsub (kg I c) 5)), (constant S256x128 .f32 0x00000000#32)⟩)
          -∗ wp frame (wpE (defs₀ (F := F)) 𝒱₀ (c : Thread nD τ) none) Set.univ (k0_part17_skel xM (Memref.isWhole_whole _) wqM (Memref.isWhole_whole _) woM (Memref.isWhole_whole _) wkM (Memref.isWhole_whole _) wvM (Memref.isWhole_whole _) oM (Memref.isWhole_whole _) xgM (Memref.isWhole_whole _) qgM (Memref.isWhole_whole _) kgM (Memref.isWhole_whole _) vgM (Memref.isWhole_whole _) sbM (Memref.isWhole_whole _) rsM (Memref.isWhole_whole _) cc0_scratch6 cc0_scratch7 cc0_scratch8 cc0_scratch9 c (wob I c) v514 (att2 (wob I c) (qg I c) (kg I c) (vg I c) (back c 3)) (kvsub (vg I c) 3) (k0_pay46 (qsub (qg I c) (back c 3) 3) (kvsub (kg I c) 3)) (k0_pay47 (qsub (qg I c) (back c 3) 3) (kvsub (kg I c) 3)) (Scalar.ofBits .f32 0x3F800000#32)) Q) := by
  unfold k0_part17_skel
  simp only [Prog.lift, Prog.bind_op, Prog.bind_ret, Prog.pure_eq_ret]
  unfold attOwn
  iintro ⟨Hq, Hk, Hv⟩ Hc
  iapply (wp_ld_q c (back c 3) 4 (off9_at c 2)) $$ Hq; iintro Hq
  iapply (wp_ld_kv c 4 rfl) $$ Hk; iintro Hk
  iapply (wp_ld_kv c 4 rfl) $$ Hv; iintro Hv
  iapply (wp_ld_q c (back c 3) 5 (off10_at c 2)) $$ Hq; iintro Hq
  iapply (wp_ld_kv c 5 rfl) $$ Hk; iintro Hk
  iapply (wp_ld_kv c 5 rfl) $$ Hv; iintro Hv
  rw [wp_ret]; imodintro
  iapply Hc
  isplitl [Hq]; · iexact Hq
  isplitl [Hk]; · iexact Hk
  iexact Hv

/-- Heads 6 and 7. -/
theorem part18_spec  (c : Dev nD) (v514 : BitVec 32) {Q : (Σ' (v639 : FVec F S256x1024 .f32), FVec F S256x128 .bf16) → sProp (MT nD τ sig Unit (Elt F) ℕ UU ℕ)} :
    iprop(attOwn I c)
      ⊢ iprop(((attOwn I c) -∗ Q ⟨(k0_pay52 (wob I c) (att4 (wob I c) (qg I c) (kg I c) (vg I c) (back c 3)) (kvsub (vg I c) 5) (k0_pay50 (qsub (qg I c) (back c 3) 5) (kvsub (kg I c) 5)) (k0_pay51 (qsub (qg I c) (back c 3) 5) (kvsub (kg I c) 5)) (constant S256x128 .f32 0x00000000#32) (qsub (qg I c) (back c 3) 6) (kvsub (kg I c) 6) (kvsub (vg I c) 6)), (k0_pay53 (qsub (qg I c) (back c 3) 7) (kvsub (kg I c) 7) (kvsub (vg I c) 7))⟩)
          -∗ wp frame (wpE (defs₀ (F := F)) 𝒱₀ (c : Thread nD τ) none) Set.univ (k0_part18_skel xM (Memref.isWhole_whole _) wqM (Memref.isWhole_whole _) woM (Memref.isWhole_whole _) wkM (Memref.isWhole_whole _) wvM (Memref.isWhole_whole _) oM (Memref.isWhole_whole _) xgM (Memref.isWhole_whole _) qgM (Memref.isWhole_whole _) kgM (Memref.isWhole_whole _) vgM (Memref.isWhole_whole _) sbM (Memref.isWhole_whole _) rsM (Memref.isWhole_whole _) cc0_scratch6 cc0_scratch7 cc0_scratch8 cc0_scratch9 c (wob I c) v514 (att4 (wob I c) (qg I c) (kg I c) (vg I c) (back c 3)) (kvsub (vg I c) 5) (k0_pay50 (qsub (qg I c) (back c 3) 5) (kvsub (kg I c) 5)) (k0_pay51 (qsub (qg I c) (back c 3) 5) (kvsub (kg I c) 5)) (constant S256x128 .f32 0x00000000#32)) Q) := by
  unfold k0_part18_skel
  simp only [Prog.lift, Prog.bind_op, Prog.bind_ret, Prog.pure_eq_ret]
  unfold attOwn
  iintro ⟨Hq, Hk, Hv⟩ Hc
  iapply (wp_ld_q c (back c 3) 6 (off11_at c 2)) $$ Hq; iintro Hq
  iapply (wp_ld_kv c 6 rfl) $$ Hk; iintro Hk
  iapply (wp_ld_kv c 6 rfl) $$ Hv; iintro Hv
  iapply (wp_ld_q c (back c 3) 7 (off12_at c 2)) $$ Hq; iintro Hq
  iapply (wp_ld_kv c 7 rfl) $$ Hk; iintro Hk
  iapply (wp_ld_kv c 7 rfl) $$ Hv; iintro Hv
  rw [wp_ret]; imodintro
  iapply Hc
  isplitl [Hq]; · iexact Hq
  isplitl [Hk]; · iexact Hk
  iexact Hv

/-- The second received sum with this device's part added, sent on. -/
theorem part19_spec  (c : Dev nD) (v7 : BitVec 32) {Q : (BitVec 32) → sProp (MT nD τ sig Unit (Elt F) ℕ UU ℕ)} :
    iprop(recs I K ∗ due c 11 ∗ left c 7 ∗ slabAny (nxt c) 2 ∗ post c 9 12)
      ⊢ iprop((∀ c256 : BitVec 32, (due c 9 ∗ left c 8 ∗ semVal (kcell (c, 11)) 0) -∗ Q c256)
          -∗ wp frame (wpE (defs₀ (F := F)) 𝒱₀ (c : Thread nD τ) none) Set.univ (k0_part19_skel xM (Memref.isWhole_whole _) wqM (Memref.isWhole_whole _) woM (Memref.isWhole_whole _) wkM (Memref.isWhole_whole _) wvM (Memref.isWhole_whole _) oM (Memref.isWhole_whole _) xgM (Memref.isWhole_whole _) qgM (Memref.isWhole_whole _) kgM (Memref.isWhole_whole _) vgM (Memref.isWhole_whole _) sbM (Memref.isWhole_whole _) rsM (Memref.isWhole_whole _) cc0_scratch6 cc0_scratch7 cc0_scratch8 cc0_scratch9 c v7 (wob I c) (att6 (wob I c) (qg I c) (kg I c) (vg I c) (back c 3)) (k0_pay53 (qsub (qg I c) (back c 3) 7) (kvsub (kg I c) 7) (kvsub (vg I c) 7))) Q) := by
  unfold k0_part19_skel
  simp only [Prog.lift, Prog.bind_op, Prog.bind_ret, Prog.pure_eq_ret]
  unfold post
  iintro ⟨#HR, Hw, HO, Hd, ⟨Ht, Hat⟩⟩ Hc
  iapply (wp_wait_due I K c 11 (by decide) 7 (by decide) rfl (View.dmaCredit_closed _ S256x1024 rfl cc0_scratch5.idx rfl _ rfl) (P := slabOwn c 1 (sum1 I (prv c))) .rfl) $$ [Hw HO]
  · isplitr; · iexact HR
    isplitl [Hw]; · iexact Hw
    iexact HO
  iintro ⟨Hs, Hz, HO⟩
  iapply (wp_ld_slab c 1 rfl) $$ Hs; iintro Hs
  iapply (wp_ld_slab c 1 rfl) $$ Hs; iintro Hs
  iapply (wp_st_slab c 1 rfl (Y := sum2 I c) (by rw [pay54_eq (wob I c) (qg I c) (kg I c) (vg I c) (back c 3), unlead]; rfl)) $$ Hs; iintro Hs
  iapply (wp_send_sum I K c _ (dev8_at c) 9 12 (by decide) (by decide) 7 rfl rfl rfl 2 rfl (X := sum2 I c) (P := slabOwn c 1 (sum2 I c)) .rfl .rfl
    (Entails.of_eq (congrArg (fun d => slabOwn (nxt c) 2 (sum2 I d)) (prv_nxt c).symm))) $$ [Hs Hd HO Ht Hat]
  · isplitr; · iexact HR
    isplitl [Hs]; · iexact Hs
    isplitl [Hd]; · iexact Hd
    isplitl [HO]; · iexact HO
    isplitl [Ht]; · iexact Ht
    iexact Hat
  iintro ⟨Hdue, HO⟩
  rw [wp_ret]; imodintro
  iapply Hc
  isplitl [Hdue]; · iexact Hdue
  isplitl [HO]; · iexact HO
  iexact Hz

/-- Heads 0 to 2 of the own section. -/
theorem part20_spec  (c : Dev nD) (v2 : BitVec 32) (c256_i32_407 : BitVec 32) {Q : (Σ' (v684 : BitVec 32) (v719 : FVec F S256x1024 .f32), Vec F S256x128 .bf16) → sProp (MT nD τ sig Unit (Elt F) ℕ UU ℕ)} :
    iprop(attOwn I c)
      ⊢ iprop((∀ v684 : BitVec 32, (attOwn I c) -∗ Q ⟨v684, (k0_pay55 (wob I c) (qsub (qg I c) c 0) (kvsub (kg I c) 0) (kvsub (vg I c) 0) (qsub (qg I c) c 1) (kvsub (kg I c) 1) (kvsub (vg I c) 1)), (qsub (qg I c) c 2)⟩)
          -∗ wp frame (wpE (defs₀ (F := F)) 𝒱₀ (c : Thread nD τ) none) Set.univ (k0_part20_skel xM (Memref.isWhole_whole _) wqM (Memref.isWhole_whole _) woM (Memref.isWhole_whole _) wkM (Memref.isWhole_whole _) wvM (Memref.isWhole_whole _) oM (Memref.isWhole_whole _) xgM (Memref.isWhole_whole _) qgM (Memref.isWhole_whole _) kgM (Memref.isWhole_whole _) vgM (Memref.isWhole_whole _) sbM (Memref.isWhole_whole _) rsM (Memref.isWhole_whole _) cc0_scratch6 cc0_scratch7 cc0_scratch8 cc0_scratch9 c v2 (wob I c) c256_i32_407) Q) := by
  unfold k0_part20_skel
  simp only [Prog.lift, Prog.bind_op, Prog.bind_ret, Prog.pure_eq_ret]
  unfold attOwn
  iintro ⟨Hq, Hk, Hv⟩ Hc
  iapply (wp_ld_q c c 0 (off13_at c)) $$ Hq; iintro Hq
  iapply (wp_ld_kv c 0 rfl) $$ Hk; iintro Hk
  iapply (wp_ld_kv c 0 rfl) $$ Hv; iintro Hv
  iapply (wp_ld_q c c 1 (off14_at c)) $$ Hq; iintro Hq
  iapply (wp_ld_kv c 1 rfl) $$ Hk; iintro Hk
  iapply (wp_ld_kv c 1 rfl) $$ Hv; iintro Hv
  iapply (wp_ld_q c c 2 (off15_at c)) $$ Hq; iintro Hq
  rw [wp_ret]; imodintro
  iapply Hc
  isplitl [Hq]; · iexact Hq
  isplitl [Hk]; · iexact Hk
  iexact Hv

/-- Heads 3 and 4. -/
theorem part21_spec  (c : Dev nD) (v684 : BitVec 32) {Q : (Σ' (v755 : FVec F S256x1024 .f32) (v757 : Vec F S256x128 .bf16), Vec F S1024x128 .bf16) → sProp (MT nD τ sig Unit (Elt F) ℕ UU ℕ)} :
    iprop(attOwn I c)
      ⊢ iprop(((attOwn I c) -∗ Q ⟨(k0_pay56 (wob I c) (att1 (wob I c) (qg I c) (kg I c) (vg I c) c) (qsub (qg I c) c 2) (kvsub (kg I c) 2) (kvsub (vg I c) 2) (qsub (qg I c) c 3) (kvsub (kg I c) 3) (kvsub (vg I c) 3)), (qsub (qg I c) c 4), (kvsub (kg I c) 4)⟩)
          -∗ wp frame (wpE (defs₀ (F := F)) 𝒱₀ (c : Thread nD τ) none) Set.univ (k0_part21_skel xM (Memref.isWhole_whole _) wqM (Memref.isWhole_whole _) woM (Memref.isWhole_whole _) wkM (Memref.isWhole_whole _) wvM (Memref.isWhole_whole _) oM (Memref.isWhole_whole _) xgM (Memref.isWhole_whole _) qgM (Memref.isWhole_whole _) kgM (Memref.isWhole_whole _) vgM (Memref.isWhole_whole _) sbM (Memref.isWhole_whole _) rsM (Memref.isWhole_whole _) cc0_scratch6 cc0_scratch7 cc0_scratch8 cc0_scratch9 c (wob I c) v684 (att1 (wob I c) (qg I c) (kg I c) (vg I c) c) (qsub (qg I c) c 2)) Q) := by
  unfold k0_part21_skel
  simp only [Prog.lift, Prog.bind_op, Prog.bind_ret, Prog.pure_eq_ret]
  unfold attOwn
  iintro ⟨Hq, Hk, Hv⟩ Hc
  iapply (wp_ld_kv c 2 rfl) $$ Hk; iintro Hk
  iapply (wp_ld_kv c 2 rfl) $$ Hv; iintro Hv
  iapply (wp_ld_q c c 3 (off16_at c)) $$ Hq; iintro Hq
  iapply (wp_ld_kv c 3 rfl) $$ Hk; iintro Hk
  iapply (wp_ld_kv c 3 rfl) $$ Hv; iintro Hv
  iapply (wp_ld_q c c 4 (off17_at c)) $$ Hq; iintro Hq
  iapply (wp_ld_kv c 4 rfl) $$ Hk; iintro Hk
  rw [wp_ret]; imodintro
  iapply Hc
  isplitl [Hq]; · iexact Hq
  isplitl [Hk]; · iexact Hk
  iexact Hv

/-- Heads 5 and 6. -/
theorem part22_spec  (c : Dev nD) (v684 : BitVec 32) {Q : (Σ' (v791 : FVec F S256x1024 .f32) (v795 : Vec F S1024x128 .bf16), FVec F S256x1024 .f32) → sProp (MT nD τ sig Unit (Elt F) ℕ UU ℕ)} :
    iprop(attOwn I c)
      ⊢ iprop(((attOwn I c) -∗ Q ⟨(k0_pay57 (wob I c) (att3 (wob I c) (qg I c) (kg I c) (vg I c) c) (qsub (qg I c) c 4) (kvsub (kg I c) 4) (kvsub (vg I c) 4) (qsub (qg I c) c 5) (kvsub (kg I c) 5) (kvsub (vg I c) 5)), (kvsub (vg I c) 6), (k0_pay58 (qsub (qg I c) c 6) (kvsub (kg I c) 6))⟩)
          -∗ wp frame (wpE (defs₀ (F := F)) 𝒱₀ (c : Thread nD τ) none) Set.univ (k0_part22_skel xM (Memref.isWhole_whole _) wqM (Memref.isWhole_whole _) woM (Memref.isWhole_whole _) wkM (Memref.isWhole_whole _) wvM (Memref.isWhole_whole _) oM (Memref.isWhole_whole _) xgM (Memref.isWhole_whole _) qgM (Memref.isWhole_whole _) kgM (Memref.isWhole_whole _) vgM (Memref.isWhole_whole _) sbM (Memref.isWhole_whole _) rsM (Memref.isWhole_whole _) cc0_scratch6 cc0_scratch7 cc0_scratch8 cc0_scratch9 c (wob I c) v684 (att3 (wob I c) (qg I c) (kg I c) (vg I c) c) (qsub (qg I c) c 4) (kvsub (kg I c) 4)) Q) := by
  unfold k0_part22_skel
  simp only [Prog.lift, Prog.bind_op, Prog.bind_ret, Prog.pure_eq_ret]
  unfold attOwn
  iintro ⟨Hq, Hk, Hv⟩ Hc
  iapply (wp_ld_kv c 4 rfl) $$ Hv; iintro Hv
  iapply (wp_ld_q c c 5 (off18_at c)) $$ Hq; iintro Hq
  iapply (wp_ld_kv c 5 rfl) $$ Hk; iintro Hk
  iapply (wp_ld_kv c 5 rfl) $$ Hv; iintro Hv
  iapply (wp_ld_q c c 6 (off19_at c)) $$ Hq; iintro Hq
  iapply (wp_ld_kv c 6 rfl) $$ Hk; iintro Hk
  iapply (wp_ld_kv c 6 rfl) $$ Hv; iintro Hv
  rw [wp_ret]; imodintro
  iapply Hc
  isplitl [Hq]; · iexact Hq
  isplitl [Hk]; · iexact Hk
  iexact Hv

/-- Head 7. -/
theorem part23_spec  (c : Dev nD) (v7 : BitVec 32) (v684 : BitVec 32) {Q : (FVec F S256x1024 .f32) → sProp (MT nD τ sig Unit (Elt F) ℕ UU ℕ)} :
    iprop(attOwn I c)
      ⊢ iprop(((attOwn I c) -∗ Q (k0_pay59 (wob I c) (att5 (wob I c) (qg I c) (kg I c) (vg I c) c) (kvsub (vg I c) 6) (k0_pay58 (qsub (qg I c) c 6) (kvsub (kg I c) 6)) (qsub (qg I c) c 7) (kvsub (kg I c) 7) (kvsub (vg I c) 7)))
          -∗ wp frame (wpE (defs₀ (F := F)) 𝒱₀ (c : Thread nD τ) none) Set.univ (k0_part23_skel xM (Memref.isWhole_whole _) wqM (Memref.isWhole_whole _) woM (Memref.isWhole_whole _) wkM (Memref.isWhole_whole _) wvM (Memref.isWhole_whole _) oM (Memref.isWhole_whole _) xgM (Memref.isWhole_whole _) qgM (Memref.isWhole_whole _) kgM (Memref.isWhole_whole _) vgM (Memref.isWhole_whole _) sbM (Memref.isWhole_whole _) rsM (Memref.isWhole_whole _) cc0_scratch6 cc0_scratch7 cc0_scratch8 cc0_scratch9 c v7 (wob I c) v684 (att5 (wob I c) (qg I c) (kg I c) (vg I c) c) (kvsub (vg I c) 6) (k0_pay58 (qsub (qg I c) c 6) (kvsub (kg I c) 6))) Q) := by
  unfold k0_part23_skel
  simp only [Prog.lift, Prog.bind_op, Prog.bind_ret, Prog.pure_eq_ret]
  unfold attOwn
  iintro ⟨Hq, Hk, Hv⟩ Hc
  iapply (wp_ld_q c c 7 (off20_at c)) $$ Hq; iintro Hq
  iapply (wp_ld_kv c 7 rfl) $$ Hk; iintro Hk
  iapply (wp_ld_kv c 7 rfl) $$ Hv; iintro Hv
  rw [wp_ret]; imodintro
  iapply Hc
  isplitl [Hq]; · iexact Hq
  isplitl [Hk]; · iexact Hk
  iexact Hv

/-- The last sum received, the result stored, and the copies out waited for. -/
theorem part24_spec  (c : Dev nD)  {Q : (PUnit) → sProp (MT nD τ sig Unit (Elt F) ℕ UU ℕ)} :
    iprop(recs I K ∗ due c 12 ∗ left c 8 ∗ outAny c ∗ due c 1 ∗ due c 2 ∗ due c 3 ∗ due c 7)
      ⊢ iprop(((slabOwn c 2 (sum2 I (prv c)) ∗ owns (c : Thread nD τ) oM fullShare (out I c) ∗ left c 8
          ∗ (xgOwn I c fullShare.right (back c 0) ∗ xgOwn I c fullShare.right (back c 1) ∗ xgOwn I c fullShare.right (back c 2) ∗ sbOwn c (sum0 I c))
          ∗ semVal (kcell (c, 12)) 0 ∗ semVal (kcell (c, 1)) 0 ∗ semVal (kcell (c, 2)) 0 ∗ semVal (kcell (c, 3)) 0 ∗ semVal (kcell (c, 7)) 0) -∗ Q ⟨⟩)
          -∗ wp frame (wpE (defs₀ (F := F)) 𝒱₀ (c : Thread nD τ) none) Set.univ (k0_part24_skel xM (Memref.isWhole_whole _) wqM (Memref.isWhole_whole _) woM (Memref.isWhole_whole _) wkM (Memref.isWhole_whole _) wvM (Memref.isWhole_whole _) oM (Memref.isWhole_whole _) xgM (Memref.isWhole_whole _) qgM (Memref.isWhole_whole _) kgM (Memref.isWhole_whole _) vgM (Memref.isWhole_whole _) sbM (Memref.isWhole_whole _) rsM (Memref.isWhole_whole _) cc0_scratch6 cc0_scratch7 cc0_scratch8 cc0_scratch9 c (att7 (wob I c) (qg I c) (kg I c) (vg I c) c)) Q) := by
  unfold k0_part24_skel
  simp only [Prog.lift, Prog.bind_op, Prog.bind_ret, Prog.pure_eq_ret]
  iintro ⟨#HR, Hw12, HO, ⟨%X, Ho⟩, Hw1, Hw2, Hw3, Hw7⟩ Hc
  iapply (wp_wait_due I K c 12 (by decide) 8 (by decide) rfl (View.dmaCredit_closed _ S256x1024 rfl cc0_scratch5.idx rfl _ rfl) (P := slabOwn c 2 (sum2 I (prv c))) .rfl) $$ [Hw12 HO]
  · isplitr; · iexact HR
    isplitl [Hw12]; · iexact Hw12
    iexact HO
  iintro ⟨Hs, Hz12, HO⟩
  iapply (wp_ld_slab c 2 rfl) $$ Hs; iintro Hs
  iapply (wp_ld_zero c zero3) $$ Ho; iintro Ho
  iapply (wp_st_out c) $$ Ho; iintro Ho
  iapply (wp_wait_due I K c 1 (by decide) 8 (by decide) rfl (View.dmaCredit_closed _ S256x1024 rfl cc0_scratch0.idx rfl _ rfl) (P := xgOwn I c fullShare.right (back c 0)) .rfl) $$ [Hw1 HO]
  · isplitr; · iexact HR
    isplitl [Hw1]; · iexact Hw1
    iexact HO
  iintro ⟨Hx0, Hz1, HO⟩
  iapply (wp_wait_due I K c 2 (by decide) 8 (by decide) rfl (View.dmaCredit_closed _ S256x1024 rfl cc0_scratch0.idx rfl _ rfl) (P := xgOwn I c fullShare.right (back c 1)) .rfl) $$ [Hw2 HO]
  · isplitr; · iexact HR
    isplitl [Hw2]; · iexact Hw2
    iexact HO
  iintro ⟨Hx1, Hz2, HO⟩
  iapply (wp_wait_due I K c 3 (by decide) 8 (by decide) rfl (View.dmaCredit_closed _ S256x1024 rfl cc0_scratch0.idx rfl _ rfl) (P := xgOwn I c fullShare.right (back c 2)) .rfl) $$ [Hw3 HO]
  · isplitr; · iexact HR
    isplitl [Hw3]; · iexact Hw3
    iexact HO
  iintro ⟨Hx2, Hz3, HO⟩
  iapply (wp_wait_due I K c 7 (by decide) 8 (by decide) rfl (View.dmaCredit_closed _ S256x1024 rfl cc0_scratch4.idx rfl _ rfl) (P := sbOwn c (sum0 I c)) .rfl) $$ [Hw7 HO]
  · isplitr; · iexact HR
    isplitl [Hw7]; · iexact Hw7
    iexact HO
  iintro ⟨Hb, Hz7, HO⟩
  rw [wp_ret]; imodintro
  iapply Hc
  isplitl [Hs]; · iexact Hs
  isplitl [Ho]
  · iapply (Entails.of_eq (congrArg (owns (c : Thread nD τ) oM fullShare) (show k0_pay60 (att7 (wob I c) (qg I c) (kg I c) (vg I c) c) (lead (sum2 I (prv c))) = out I c by
      rw [pay60_eq (wob I c) (qg I c) (kg I c) (vg I c) c, unlead]; rfl)))
    iexact Ho
  isplitl [HO]; · iexact HO
  isplitl [Hx0 Hx1 Hx2 Hb]
  · isplitl [Hx0]; · iexact Hx0
    isplitl [Hx1]; · iexact Hx1
    isplitl [Hx2]; · iexact Hx2
    iexact Hb
  isplitl [Hz12]; · iexact Hz12
  isplitl [Hz1]; · iexact Hz1
  isplitl [Hz2]; · iexact Hz2
  isplitl [Hz3]; · iexact Hz3
  iexact Hz7

end Cert.KernelIdealProof

end
-- ==== Proof.KernelIdeal.Body.lean ====
/-
  The whole body: its parts one after another.
-/
module

public import proofs.«01_k».proof.Proof.KernelIdeal.Attend

@[expose] public section

noncomputable section

namespace Cert.KernelIdealProof

open Cert.KernelIdeal Cert.KernelIdeal.Gen Cert.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (K : Dev nD × Fin 13 → ℕ)

/-- The scratch buffers, at any values. -/
def scratch (c : Dev nD) : sProp 𝕄 :=
  iprop((∃ X : Vec F S1024x1024 .bf16, owns (c : Thread nD τ) xgM fullShare X) ∗ (∃ X : Vec F S1024x1024 .bf16, owns (c : Thread nD τ) qgM fullShare X)
    ∗ (∃ X : Vec F S1024x1024 .bf16, owns (c : Thread nD τ) kgM fullShare X) ∗ (∃ X : Vec F S1024x1024 .bf16, owns (c : Thread nD τ) vgM fullShare X)
    ∗ sbAny c ∗ (∃ X : Vec F S3x256x1024 .bf16, owns (c : Thread nD τ) rsM fullShare X))

/-- The rights the body starts with: the handshake's, the six receive cells', the six copies'. -/
def rights (c : Dev nD) : sProp 𝕄 :=
  iprop(shake c ∗ (due c 4 ∗ due c 5 ∗ due c 6 ∗ due c 10 ∗ due c 11 ∗ due c 12)
    ∗ (post c 1 4 ∗ post c 2 5 ∗ post c 3 6 ∗ post c 7 10 ∗ post c 8 11 ∗ post c 9 12))

/-- Every counter at zero. -/
def zeros (c : Dev nD) : sProp 𝕄 :=
  iprop(semVal (kcell (c, 0)) 0 ∗ semVal (kcell (c, 1)) 0 ∗ semVal (kcell (c, 2)) 0 ∗ semVal (kcell (c, 3)) 0 ∗ semVal (kcell (c, 4)) 0 ∗ semVal (kcell (c, 5)) 0 ∗ semVal (kcell (c, 6)) 0 ∗ semVal (kcell (c, 7)) 0 ∗ semVal (kcell (c, 8)) 0 ∗ semVal (kcell (c, 9)) 0 ∗ semVal (kcell (c, 10)) 0 ∗ semVal (kcell (c, 11)) 0 ∗ semVal (kcell (c, 12)) 0)

set_option maxHeartbeats 4000000 in
set_option maxRecDepth 65536 in
theorem wp_body (c : Dev nD) {Q : PUnit → sProp (MT nD τ sig Unit (Elt F) ℕ UU ℕ)} :
    iprop(recs I K ∗ rights c ∗ left c 0 ∗ inOwn I c ∗ outAny c ∗ scratch c)
      ⊢ iprop(((left c 8 ∗ inOwn I c ∗ owns (c : Thread nD τ) oM fullShare (out I c) ∗ scratch c ∗ zeros c) -∗ Q ⟨⟩)
          -∗ wp frame (wpE (defs₀ (F := F)) 𝒱₀ (c : Thread nD τ) none) Set.univ (cc0_body xM (Memref.isWhole_whole _) wqM (Memref.isWhole_whole _) woM (Memref.isWhole_whole _) wkM (Memref.isWhole_whole _) wvM (Memref.isWhole_whole _) oM (Memref.isWhole_whole _) xgM (Memref.isWhole_whole _) qgM (Memref.isWhole_whole _) kgM (Memref.isWhole_whole _) vgM (Memref.isWhole_whole _) sbM (Memref.isWhole_whole _) rsM (Memref.isWhole_whole _) cc0_scratch6 cc0_scratch7 cc0_scratch8 cc0_scratch9) Q) := by
  rw [cc0_body_eq_skeleton]
  unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
  unfold rights scratch
  iintro ⟨#HR, ⟨Hsh, ⟨D4, D5, D6, D10, D11, D12⟩, P1, P2, P3, P7, P8, P9⟩, HO, Hin, Hout, ⟨%X0, Hxg⟩, ⟨%X1, Hqg⟩, ⟨%X2, Hkg⟩, ⟨%X3, Hvg⟩, Hsb, ⟨%X5, Hrs⟩⟩ HQ
  ihave Hxg := (split_sections c xgM X0) $$ Hxg
  icases Hxg with ⟨x0, x1, x2, x3⟩
  ihave Hqg := (split_sections c qgM X1) $$ Hqg
  icases Hqg with ⟨q0, q1, q2, q3⟩
  ihave Hkg := (split_sections c kgM X2) $$ Hkg
  icases Hkg with ⟨k0, k1, k2, k3⟩
  ihave Hvg := (split_sections c vgM X3) $$ Hvg
  icases Hvg with ⟨v0, v1, v2, v3⟩
  ihave Hrs := (split_slabs c X5) $$ Hrs
  icases Hrs with ⟨s0, s1, s2⟩
  rw [wp_bind]
  iapply (part1_spec I K c) $$ [Hsh HO x1 x2 x3 s0 s1 s2 Hin]
  · isplitr; · iexact HR
    isplitl [Hsh]; · iexact Hsh
    isplitl [HO]; · iexact HO
    isplitl [x1 x2 x3 s0 s1 s2]
    · unfold landing
      isplitl [x1]; · iexact x1
      isplitl [x2]; · iexact x2
      isplitl [x3]; · iexact x3
      isplitl [s0]; · iexact s0
      isplitl [s1]; · iexact s1
      iexact s2
    iexact Hin
  iintro %w2 %w7 %w28 ⟨HO, Hland, Z0, Hin⟩
  try dsimp only
  unfold landing
  rw [back_nxt_1, back_nxt_2, back_nxt_3]
  icases Hland with ⟨n0, n1, n2, t0, t1, t2⟩
  rw [wp_bind]
  iapply (part2_spec I K c _ _ _) $$ [x0 n0 HO P1 q0 k0]
  · isplitr; · iexact HR
    isplitl [x0]; · iexact x0
    isplitl [n0]; · iexact n0
    isplitl [HO]; · iexact HO
    isplitl [P1]; · iexact P1
    isplitl [q0]; · iexact q0
    iexact k0
  iintro ⟨L0, D1, HO, q0, k0⟩
  try dsimp only
  rw [wp_bind]
  iapply (part3_spec I K c _ _) $$ [v0 D4 n1 HO P2 q1]
  · isplitr; · iexact HR
    isplitl [v0]; · iexact v0
    isplitl [D4]; · iexact D4
    isplitl [n1]; · iexact n1
    isplitl [HO]; · iexact HO
    isplitl [P2]; · iexact P2
    iexact q1
  iintro %w86 ⟨L1, D2, HO, Z4, v0, q1⟩
  try dsimp only
  rw [wp_bind]
  iapply (part4_spec I K c _ _ _) $$ [k1 v1 D5 n2 HO P3]
  · isplitr; · iexact HR
    isplitl [k1]; · iexact k1
    isplitl [v1]; · iexact v1
    isplitl [D5]; · iexact D5
    isplitl [n2]; · iexact n2
    isplitl [HO]; · iexact HO
    iexact P3
  iintro %w127 ⟨L2, D3, HO, Z5, k1, v1⟩
  try dsimp only
  rw [wp_bind]
  iapply (part5_spec I K c _ _ _) $$ [q2 k2 v2 D6 HO q3]
  · isplitr; · iexact HR
    isplitl [q2]; · iexact q2
    isplitl [k2]; · iexact k2
    isplitl [v2]; · iexact v2
    isplitl [D6]; · iexact D6
    isplitl [HO]; · iexact HO
    iexact q3
  iintro %w158 ⟨x3, HO, Z6, q2, k2, v2, q3⟩
  try dsimp only
  rw [wp_bind]
  iapply (part6_spec I c _ _) $$ [q0 q1 q2 q3 k0 k1 k2 k3 v0 v1 v2 v3]
  · isplitl [q0 q1 q2 q3]
    · isplitl [q0]; · iexact q0
      isplitl [q1]; · iexact q1
      isplitl [q2]; · iexact q2
      iexact q3
    isplitl [k0 k1 k2 k3]
    · isplitl [k0]; · iexact k0
      isplitl [k1]; · iexact k1
      isplitl [k2]; · iexact k2
      iexact k3
    isplitl [v0]; · iexact v0
    isplitl [v1]; · iexact v1
    isplitl [v2]; · iexact v2
    iexact v3
  iintro %w184 HA
  try dsimp only
  rw [pay23_eq (wob I c) (qg I c) (kg I c) (vg I c) (back c 1)]
  rw [wp_bind]
  iapply (part7_spec I c _) $$ [HA]
  · iexact HA
  iintro HA
  try dsimp only
  rw [pay24_eq (wob I c) (qg I c) (kg I c) (vg I c) (back c 1)]
  rw [wp_bind]
  iapply (part8_spec I c _) $$ [HA]
  · iexact HA
  iintro HA
  try dsimp only
  rw [pay26_eq (wob I c) (qg I c) (kg I c) (vg I c) (back c 1)]
  rw [wp_bind]
  iapply (part9_spec I c _) $$ [HA]
  · iexact HA
  iintro HA
  try dsimp only
  rw [pay29_eq (wob I c) (qg I c) (kg I c) (vg I c) (back c 1)]
  rw [wp_bind]
  iapply (part10_spec I K c _ _) $$ [Hsb t0 HO P7 HA]
  · isplitr; · iexact HR
    isplitl [Hsb]; · iexact Hsb
    isplitl [t0]; · iexact t0
    isplitl [HO]; · iexact HO
    isplitl [P7]; · iexact P7
    iexact HA
  iintro %w343 ⟨D7, HO, HA⟩
  try dsimp only
  rw [wp_bind]
  iapply (part11_spec I c _) $$ [HA]
  · iexact HA
  iintro HA
  try dsimp only
  rw [pay37_eq (wob I c) (qg I c) (kg I c) (vg I c) (back c 2)]
  rw [wp_bind]
  iapply (part12_spec I c _) $$ [HA]
  · iexact HA
  iintro HA
  try dsimp only
  rw [pay40_eq (wob I c) (qg I c) (kg I c) (vg I c) (back c 2)]
  rw [wp_bind]
  iapply (part13_spec I c _) $$ [HA]
  · iexact HA
  iintro HA
  try dsimp only
  rw [pay41_eq (wob I c) (qg I c) (kg I c) (vg I c) (back c 2)]
  rw [wp_bind]
  iapply (part14_spec I K c _) $$ [D10 HO HA]
  · isplitr; · iexact HR
    isplitl [D10]; · iexact D10
    isplitl [HO]; · iexact HO
    iexact HA
  iintro ⟨s0, HO, Z10, HA⟩
  try dsimp only
  rw [wp_bind]
  iapply (part15_spec I K c _) $$ [s0 t1 HO P8 HA]
  · isplitr; · iexact HR
    isplitl [s0]; · iexact s0
    isplitl [t1]; · iexact t1
    isplitl [HO]; · iexact HO
    isplitl [P8]; · iexact P8
    iexact HA
  iintro %w514 ⟨D8, HO, HA⟩
  try dsimp only
  rw [pay43_eq (wob I c) (qg I c) (kg I c) (vg I c) (back c 3)]
  rw [wp_bind]
  iapply (part16_spec I c _) $$ [HA]
  · iexact HA
  iintro HA
  try dsimp only
  rw [pay45_eq (wob I c) (qg I c) (kg I c) (vg I c) (back c 3)]
  rw [wp_bind]
  iapply (part17_spec I c _) $$ [HA]
  · iexact HA
  iintro HA
  try dsimp only
  rw [pay48_eq (wob I c) (qg I c) (kg I c) (vg I c) (back c 3)]
  rw [wp_bind]
  iapply (part18_spec I c _) $$ [HA]
  · iexact HA
  iintro HA
  try dsimp only
  rw [pay52_eq (wob I c) (qg I c) (kg I c) (vg I c) (back c 3)]
  rw [wp_bind]
  iapply (part19_spec I K c _) $$ [D11 HO t2 P9]
  · isplitr; · iexact HR
    isplitl [D11]; · iexact D11
    isplitl [HO]; · iexact HO
    isplitl [t2]; · iexact t2
    iexact P9
  iintro %wc ⟨D9, HO, Z11⟩
  try dsimp only
  rw [wp_bind]
  iapply (part20_spec I c _ _) $$ [HA]
  · iexact HA
  iintro %w684 HA
  try dsimp only
  rw [pay55_eq (wob I c) (qg I c) (kg I c) (vg I c) c]
  rw [wp_bind]
  iapply (part21_spec I c _) $$ [HA]
  · iexact HA
  iintro HA
  try dsimp only
  rw [pay56_eq (wob I c) (qg I c) (kg I c) (vg I c) c]
  rw [wp_bind]
  iapply (part22_spec I c _) $$ [HA]
  · iexact HA
  iintro HA
  try dsimp only
  rw [pay57_eq (wob I c) (qg I c) (kg I c) (vg I c) c]
  rw [wp_bind]
  iapply (part23_spec I c _ _) $$ [HA]
  · iexact HA
  iintro HA
  try dsimp only
  rw [pay59_eq (wob I c) (qg I c) (kg I c) (vg I c) c]
  rw [wp_bind]
  iapply (part24_spec I K c) $$ [D12 HO Hout D1 D2 D3 D7]
  · isplitr; · iexact HR
    isplitl [D12]; · iexact D12
    isplitl [HO]; · iexact HO
    isplitl [Hout]; · iexact Hout
    isplitl [D1]; · iexact D1
    isplitl [D2]; · iexact D2
    isplitl [D3]; · iexact D3
    iexact D7
  iintro ⟨s2, Ho, HO, ⟨R0, R1, R2, Hsb⟩, Z12, Z1, Z2, Z3, Z7⟩
  try dsimp only
  simp only [Prog.lift, Prog.bind_op, Prog.bind_ret, Prog.pure_eq_ret]
  iapply (wp_wait_due I K c 8 (by decide) 8 (by decide) rfl (View.dmaCredit_closed _ S256x1024 rfl cc0_scratch5.idx rfl _ rfl) (P := slabOwn c 0 (sum1 I c)) .rfl) $$ [D8 HO]
  · isplitr; · iexact HR
    isplitl [D8]; · iexact D8
    iexact HO
  iintro ⟨s0, Z8, HO⟩
  iapply (wp_wait_due I K c 9 (by decide) 8 (by decide) rfl (View.dmaCredit_closed _ S256x1024 rfl cc0_scratch5.idx rfl _ rfl) (P := slabOwn c 1 (sum2 I c)) .rfl) $$ [D9 HO]
  · isplitr; · iexact HR
    isplitl [D9]; · iexact D9
    iexact HO
  iintro ⟨s1, Z9, HO⟩
  rw [wp_ret]; imodintro
  iapply HQ
  isplitl [HO]; · iexact HO
  isplitl [Hin]; · iexact Hin
  isplitl [Ho]; · iexact Ho
  isplitl [x3 L0 L1 L2 R0 R1 R2 HA Hsb s0 s1 s2]
  · unfold attOwn xgOwn sbOwn
    icases HA with ⟨Hq, Hk, Hv⟩
    isplitl [x3 L0 L1 L2 R0 R1 R2]
    · iexists _
      iapply (join_sections c xgM (fun j => xb I j))
      isplitl [L0 R0]
      · iapply (owns_halves _ _ _ _).2
        isplitl [L0]; · iexact L0
        iexact R0
      isplitl [L1 R1]
      · iapply (owns_halves _ _ _ _).2
        isplitl [L1]; · iexact L1
        iexact R1
      isplitl [L2 R2]
      · iapply (owns_halves _ _ _ _).2
        isplitl [L2]; · iexact L2
        iexact R2
      iexact x3
    isplitl [Hq]; · iexists _; iexact Hq
    isplitl [Hk]; · iexists _; iexact Hk
    isplitl [Hv]; · iexists _; iexact Hv
    isplitl [Hsb]; · iexists _; iexact Hsb
    iapply (join_slabs c (sum1 I c) (sum2 I c) (sum2 I (prv c)))
    isplitl [s0]; · iexact s0
    isplitl [s1]; · iexact s1
    iexact s2
  unfold zeros
  isplitl [Z0]; · iexact Z0
  isplitl [Z1]; · iexact Z1
  isplitl [Z2]; · iexact Z2
  isplitl [Z3]; · iexact Z3
  isplitl [Z4]; · iexact Z4
  isplitl [Z5]; · iexact Z5
  isplitl [Z6]; · iexact Z6
  isplitl [Z7]; · iexact Z7
  isplitl [Z8]; · iexact Z8
  isplitl [Z9]; · iexact Z9
  isplitl [Z10]; · iexact Z10
  isplitl [Z11]; · iexact Z11
  iexact Z12

end Cert.KernelIdealProof

end
-- ==== Proof.KernelIdeal.Launch.lean ====
/-
  The launch: the ring's cells allocated on all devices at once, the tokens dealt, what each device owes, and the run.
-/
module

public import proofs.«01_k».proof.Proof.KernelIdeal.Body
public import proofs.«01_k».proof.Proof.Gen.KernelIdeal.Points
public import Idealize.ShloMosaic.Lib.Pipeline.CollectiveSegs

@[expose] public section

noncomputable section

namespace Cert.KernelIdealProof

open Cert.KernelIdeal Cert.KernelIdeal.Gen Cert.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Any memory, every counter at zero. -/
def s₀ : MemSt nD τ sig (Elt F) := ⟨m, fun _ => 0, ρ⟩

/-- Each device's argument blocks, as the pipeline stages them. -/
def insOf : Ins F where
  x c := (win0_0.blk t0_0).view.read (Elt F) (m ((c : Thread nD τ).loc main_arg0))
  wq c := (win0_1.blk t0_0).view.read (Elt F) (m ((c : Thread nD τ).loc main_arg1))
  wo c := (win0_2.blk t0_0).view.read (Elt F) (m ((c : Thread nD τ).loc main_arg4))
  wk c := (win0_3.blk t0_0).view.read (Elt F) (m ((c : Thread nD τ).loc main_arg2))
  wv c := (win0_4.blk t0_0).view.read (Elt F) (m ((c : Thread nD τ).loc main_arg3))

/-! ## The proof data and the body's obligation -/

/-- What the body starts from. -/
def start (c : Dev nD) : sProp 𝕄 := iprop(∃ K, recs (insOf m) K ∗ rights c)

def dats (_ : Fin 1) (c : Dev nD) : Dat τ (Elt F) Unit ℕ UU ℕ cfg0 c where
  A w := m ((cfg0.win w).arr.view.loc (c : Thread nD τ))
  after w _ := match w with
    | ⟨0, _⟩ => (insOf m).x c
    | ⟨1, _⟩ => (insOf m).wq c
    | ⟨2, _⟩ => (insOf m).wo c
    | ⟨3, _⟩ => (insOf m).wk c
    | ⟨4, _⟩ => (insOf m).wv c
    | ⟨5, _⟩ => out (insOf m) c
  Φ t := match t with
    | ⟨0, _⟩ => iprop(start m c ∗ scratch c)
    | ⟨_ + 1, _⟩ => iprop(scratch c ∗ zeros c)
  q _ := fullShare
  owed t := match t with
    | ⟨0, _⟩ => owe (dues c)
    | ⟨_ + 1, _⟩ => 0

theorem point (t : Fin cfg0.N) : t = (t0_0 : Fin grid0.N) := fin_N0 t

/-- What a staging buffer is held as. -/
abbrev stg (c : Dev nD) (b : Ref sig .tc) (X : b.ty.Contents (Elt F)) : sProp 𝕄 := owns (c : Thread nD τ) (Memref.whole b) fullShare X

set_option maxRecDepth 65536 in
set_option maxHeartbeats 4000000 in
/-- The body's obligation on device `c`. -/
theorem body_obligation (c : Dev nD) : BodyObligation (dats (F := F) m 0 c) (defs₀ (F := F)) 𝒱₀ () Set.univ := fun t => by
  rw [point t, bigSep_W0, bigSep_W0]
  show iprop(iprop(start m c ∗ scratch c) ∗ (dats m 0 c).owesAt () (Fin.castSucc (t0_0 : Fin grid0.N))
      ∗ (∃ d, stg c cc0_stg0_0 ((dats m 0 c).before (0 : Fin 6) (t0_0 : Fin grid0.N) d))
      ∗ (∃ d, stg c cc0_stg1_0 ((dats m 0 c).before (1 : Fin 6) (t0_0 : Fin grid0.N) d))
      ∗ (∃ d, stg c cc0_stg2_0 ((dats m 0 c).before (2 : Fin 6) (t0_0 : Fin grid0.N) d))
      ∗ (∃ d, stg c cc0_stg3_0 ((dats m 0 c).before (3 : Fin 6) (t0_0 : Fin grid0.N) d))
      ∗ (∃ d, stg c cc0_stg4_0 ((dats m 0 c).before (4 : Fin 6) (t0_0 : Fin grid0.N) d))
      ∗ (∃ d, stg c cc0_stg5_0 ((dats m 0 c).before (5 : Fin 6) (t0_0 : Fin grid0.N) d)))
    ⊢ wp frame (wpE (defs₀ (F := F)) 𝒱₀ (c : Thread nD τ) none) Set.univ
      (cc0_body xM (Memref.isWhole_whole _) wqM (Memref.isWhole_whole _) woM (Memref.isWhole_whole _) wkM (Memref.isWhole_whole _) wvM (Memref.isWhole_whole _)
        oM (Memref.isWhole_whole _) xgM (Memref.isWhole_whole _) qgM (Memref.isWhole_whole _) kgM (Memref.isWhole_whole _) vgM (Memref.isWhole_whole _)
        sbM (Memref.isWhole_whole _) rsM (Memref.isWhole_whole _) cc0_scratch6 cc0_scratch7 cc0_scratch8 cc0_scratch9)
      (fun _ => iprop(iprop(scratch c ∗ zeros c) ∗ (dats m 0 c).owesAt () (Fin.succ (t0_0 : Fin grid0.N))
        ∗ stg c cc0_stg0_0 ((insOf m).x c) ∗ stg c cc0_stg1_0 ((insOf m).wq c) ∗ stg c cc0_stg2_0 ((insOf m).wo c)
        ∗ stg c cc0_stg3_0 ((insOf m).wk c) ∗ stg c cc0_stg4_0 ((insOf m).wv c) ∗ stg c cc0_stg5_0 (out (insOf m) c)))
  have h0 (d) : (dats m 0 c).before (0 : Fin 6) (t0_0 : Fin grid0.N) d = (insOf m).x c := by unfold Dat.before; rw [if_pos (fetch0_0 _)]; rfl
  have h1 (d) : (dats m 0 c).before (1 : Fin 6) (t0_0 : Fin grid0.N) d = (insOf m).wq c := by unfold Dat.before; rw [if_pos (fetch0_1 _)]; rfl
  have h2 (d) : (dats m 0 c).before (2 : Fin 6) (t0_0 : Fin grid0.N) d = (insOf m).wo c := by unfold Dat.before; rw [if_pos (fetch0_2 _)]; rfl
  have h3 (d) : (dats m 0 c).before (3 : Fin 6) (t0_0 : Fin grid0.N) d = (insOf m).wk c := by unfold Dat.before; rw [if_pos (fetch0_3 _)]; rfl
  have h4 (d) : (dats m 0 c).before (4 : Fin 6) (t0_0 : Fin grid0.N) d = (insOf m).wv c := by unfold Dat.before; rw [if_pos (fetch0_4 _)]; rfl
  simp only [h0, h1, h2, h3, h4]
  unfold start Dat.owesAt Pipeline.owesWithin
  iintro ⟨⟨⟨%K, #HR, Hr⟩, Hs⟩, ⟨%W, %hW, HO⟩, ⟨%d0, Hx⟩, ⟨%d1, Hq⟩, ⟨%d2, Ho⟩, ⟨%d3, Hk⟩, ⟨%d4, Hv⟩, ⟨%d5, Hout⟩⟩
  iapply (wp_body (insOf m) K c) $$ [Hr Hs HO Hx Hq Ho Hk Hv Hout]
  · isplitr; · iexact HR
    isplitl [Hr]; · iexact Hr
    isplitl [HO]
    · unfold left
      iexists W
      iexact HO
    isplitl [Hx Hq Ho Hk Hv]
    · unfold inOwn
      isplitl [Hx]; · iexact Hx
      isplitl [Hq]; · iexact Hq
      isplitl [Ho]; · iexact Ho
      isplitl [Hk]; · iexact Hk
      iexact Hv
    isplitl [Hout]; · iexists _; iexact Hout
    iexact Hs
  unfold left inOwn
  iintro ⟨⟨%W', HO⟩, ⟨Hx, Hq, Ho, Hk, Hv⟩, Hout, Hs, Hz⟩
  isplitl [Hs Hz]
  · isplitl [Hs]; · iexact Hs
    iexact Hz
  isplitl [HO]
  · iexists W'
    isplitr; · ipureintro; exact fun _ _ => Or.inl trivial
    iexact HO
  isplitl [Hx]; · iexact Hx
  isplitl [Hq]; · iexact Hq
  isplitl [Ho]; · iexact Ho
  isplitl [Hk]; · iexact Hk
  isplitl [Hv]; · iexact Hv
  iexact Hout

/-! ## The ring's cells and tokens -/

/-- The kernel's own twelve semaphores. -/
abbrev osem : Fin 12 → SemLoc sig := fun i => csem i.succ

theorem ownSemFacts : Pipeline.OwnSemFacts cfg0.spec osem := by decide

theorem share_eq (c : Dev nD) (w : Fin cfg0.W) : (dats m 0 c).share w = fullShare := by unfold Dat.share; split <;> rfl

theorem csem_injective : Function.Injective csem := fun i j h =>
  Fin.ext ((code_csem i).symm.trans ((congrArg code h).trans (code_csem j)))

theorem kcell_injective : Function.Injective (kcell : Dev nD × Fin 13 → GSem nD τ sig) := by
  rintro ⟨c, i⟩ ⟨d, j⟩ h
  have hc : c = d := congrArg (fun g : GSem nD τ sig => g.1.1) h
  have hi : i = j := csem_injective (congrArg Prod.snd h)
  rw [hc, hi]

/-- The tokens of a device's own cells: thirteen `false`, and its barrier's `true`. -/
abbrev tokCell : Fin 14 → Fin 13 := fun j => if h : j.val < 13 then ⟨j.val, h⟩ else 0
abbrev tokOf (cj : Dev nD × Fin 14) : GSem nD τ sig × ℕ × Bool := (kcell (cj.1, tokCell cj.2), 0, decide (cj.2 = 13))

theorem tokOf_injective : Function.Injective (tokOf : Dev nD × Fin 14 → GSem nD τ sig × ℕ × Bool) := by
  rintro ⟨c, j⟩ ⟨c', j'⟩ h
  have hk : (c, tokCell j) = (c', tokCell j') := kcell_injective (congrArg Prod.fst h)
  have hb : decide (j = 13) = decide (j' = 13) := congrArg (fun x => x.2.2) h
  have hj : j = j' := by
    have h2 := congrArg Prod.snd hk
    dsimp only at h2
    clear hk h
    revert j j'; decide
  rw [show c = c' from congrArg Prod.fst hk, hj]

def ringCells : Finset (GSem nD τ sig) := Finset.univ.map ⟨kcell, kcell_injective⟩
def ringToks : Finset (GSem nD τ sig × ℕ × Bool) := Finset.univ.map ⟨tokOf, tokOf_injective⟩

def u₀ : UU := (initOf (Pipeline.cells cfgs cellOf_inj) (Pipeline.launchToks cfgs cellOf_inj), initOf ringCells ringToks)

/-- A device's token `j`. -/
abbrev tok (c : Dev nD) (j : Fin 14) : sProp 𝕄 := dutyTok ER (tokOf (c, j)).1 0 (tokOf (c, j)).2.2

/-- Who pays with token `j` of whom: the barrier's `false` and the receive cells' go to the device before, the barrier's
    `true` to the device after, the send cells' stay. -/
def ring : Dev nD ≃ Dev nD := ⟨nxt, prv, prv_nxt, nxt_prv⟩
def deal (j : Fin 14) : Dev nD ≃ Dev nD :=
  if j = 13 then ring.symm else if j = 0 ∨ j = 4 ∨ j = 5 ∨ j = 6 ∨ j = 10 ∨ j = 11 ∨ j = 12 then ring else Equiv.refl _

theorem deal_toks : (bigSep Finset.univ fun c : Dev nD => bigSep Finset.univ fun j : Fin 14 => (tok c j : sProp 𝕄))
    = bigSep Finset.univ fun c : Dev nD => bigSep Finset.univ fun j : Fin 14 => tok (deal j c) j := by
  rw [bigSep_univ_comm, bigSep_univ_comm (fun (c : Dev nD) (j : Fin 14) => (tok (deal j c) j : sProp 𝕄))]
  exact bigSep_congr fun j _ => bigSep_univ_equiv (deal j) (fun c : Dev nD => (tok c j : sProp 𝕄))

theorem fin13 (Φ : Fin 13 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12) :=
  bigSep_univ_eq_bigSepL [0, 1, 2, 3, 4, 5, 6, 7, 8, 9, 10, 11, 12] (by decide) (by decide) Φ
theorem fin14 (Φ : Fin 14 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) :=
  bigSep_univ_eq_bigSepL [0, 1, 2, 3, 4, 5, 6, 7, 8, 9, 10, 11, 12, 13] (by decide) (by decide) Φ

/-- What the launch deals to device `c`. -/
def G (c : Dev nD) : sProp 𝕄 :=
  iprop((bigSep Finset.univ fun i : Fin 13 => roundState ER (Rd (insOf m)) (kcell (c, i)) 0)
    ∗ (bigSep Finset.univ fun i : Fin 13 => iprop(atPos ER (kcell (c, i)) 0 ∅ 0 ∗ reached ER (kcell (c, i)) 0))
    ∗ bigSep Finset.univ fun j : Fin 14 => tok c j)

/-- The invariants and reached rounds of every cell. -/
def known (K : Dev nD × Fin 13 → ℕ) : sProp 𝕄 :=
  iprop((bigSep Finset.univ fun ck : Dev nD × Fin 13 => cellInv ER (Rd (insOf m)) (K ck) (kcell ck))
    ∗ bigSep Finset.univ fun ck : Dev nD × Fin 13 => reached ER (kcell ck) 0)

instance known_persistent (K : Dev nD × Fin 13 → ℕ) : BI.Persistent (known m K) := by unfold known; infer_instance

/-- A device's positions, and the tokens it pays with. -/
def held (c : Dev nD) : sProp 𝕄 :=
  iprop((bigSep Finset.univ fun i : Fin 13 => atPos ER (kcell (c, i)) 0 ∅ 0) ∗ bigSep Finset.univ fun j : Fin 14 => tok (deal j c) j)

/-- What the allocation makes of it. -/
def G' (c : Dev nD) : sProp 𝕄 := iprop(∃ K, known m K ∗ held c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun i : Fin 13 => Φ (kcell (c, i)) := by
    unfold ringCells; rw [bigSep_map, bigSep_univ_prod]; rfl
  have hT : bigSep ringToks (fun x => (dutyTok ER x.1 x.2.1 x.2.2 : sProp 𝕄)) = bigSep Finset.univ fun c : Dev nD => bigSep Finset.univ fun j : Fin 14 => tok c j := by
    unfold ringToks; rw [bigSep_map, bigSep_univ_prod]; rfl
  iintro HX
  imod (Rounds.fund ER (Rd (insOf m)) ringCells ringToks) $$ HX with ⟨Hst, Hr, Hat, Htok⟩
  imodintro
  ihave Hst := (Entails.of_eq (hX fun g => roundState ER (Rd (insOf m)) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

theorem ownSems0_eq (c : Dev nD) : (Pipeline.ownSems0 (Ix := Unit) (Name := ℕ) (U := UU) (Lvl := ℕ) (Val := Elt F) (τ := τ) osem c : sProp 𝕄)
    = iprop(semVal (kcell (c, 1)) 0 ∗ semVal (kcell (c, 2)) 0 ∗ semVal (kcell (c, 3)) 0 ∗ semVal (kcell (c, 4)) 0 ∗ semVal (kcell (c, 5)) 0 ∗ semVal (kcell (c, 6)) 0
      ∗ semVal (kcell (c, 7)) 0 ∗ semVal (kcell (c, 8)) 0 ∗ semVal (kcell (c, 9)) 0 ∗ semVal (kcell (c, 10)) 0 ∗ semVal (kcell (c, 11)) 0 ∗ semVal (kcell (c, 12)) 0) := by
  rw [Pipeline.ownSems0_eq_of_list c osem [0, 1, 2, 3, 4, 5, 6, 7, 8, 9, 10, 11] (by decide) (by decide)]; rfl
theorem unscopedSems0_eq (c : Dev nD) : (unscopedSems0 c : sProp 𝕄) = semVal (kcell (c, 0)) 0 := by
  unfold unscopedSems0; rw [bigSep_eq_bigSepL_of_eq [SemLoc.reg barS] (by decide) (by decide)]; rfl

/-- The launch's semaphores are the thirteen cells. -/
theorem sems0_eq (c : Dev nD) : (zeros c : sProp 𝕄)
    = iprop(unscopedSems0 c ∗ Pipeline.ownSems0 (Ix := Unit) (Name := ℕ) (U := UU) (Lvl := ℕ) (Val := Elt F) (τ := τ) osem c) := by
  rw [ownSems0_eq, unscopedSems0_eq]; rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : Fin 13 => iprop(∃ κ : ℕ, cellInv ER (Rd (insOf m)) κ (kcell (c, i))))
          ∗ (bigSep Finset.univ fun i : Fin 13 => iprop(atPos ER (kcell (c, i)) 0 ∅ 0 ∗ reached ER (kcell (c, i)) 0))
          ∗ bigSep Finset.univ fun j : Fin 14 => tok c j) := by
  unfold G
  iintro ⟨Hos, Hus, Hst, Hat, Htok⟩
  ihave Hv := (Entails.of_eq ((sems0_eq (F := F) c).symm.trans (show zeros c = bigSep Finset.univ fun i : Fin 13 => (semVal (kcell (c, i)) 0 : sProp 𝕄) by rw [fin13]; rfl))) $$ [Hos Hus]
  · isplitl [Hus] <;> iassumption
  imod (show iprop((bigSep Finset.univ fun i : Fin 13 => semVal (kcell (c, i)) 0) ∗ bigSep Finset.univ fun i : Fin 13 => roundState ER (Rd (insOf m)) (kcell (c, i)) 0)
      ⊢ (|={Set.univ}=> bigSep Finset.univ fun i => iprop(∃ κ : ℕ, cellInv ER (Rd (insOf m)) κ (kcell (c, i))) : sProp 𝕄) from by
        rw [← bigSep_sep']
        exact (bigSep_mono fun i _ => (Rounds.body_intro ER (Rd (insOf m)) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

theorem share_out {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun i : Fin 13 => iprop(∃ κ : ℕ, cellInv ER (Rd (insOf m)) κ (kcell (c, i))))
          ∗ (bigSep Finset.univ fun i : Fin 13 => iprop(atPos ER (kcell (c, i)) 0 ∅ 0 ∗ reached ER (kcell (c, i)) 0))
          ∗ bigSep Finset.univ fun j : Fin 14 => tok c j) : sProp 𝕄)
      ⊢ bigSep Finset.univ (G' m) := by
  rw [bigSep_sep', bigSep_sep', ← bigSep_univ_prod (fun ck : Dev nD × Fin 13 => iprop(∃ κ : ℕ, cellInv ER (Rd (insOf m)) κ (kcell ck))),
    bigSep_congr (s := Finset.univ) (fun (c : Dev nD) _ => bigSep_sep' Finset.univ (fun i : Fin 13 => (atPos ER (kcell (c, i)) 0 ∅ 0 : sProp 𝕄)) (fun i => reached ER (kcell (c, i)) 0)),
    bigSep_sep', ← bigSep_univ_prod (fun ck : Dev nD × Fin 13 => (reached ER (kcell ck) 0 : sProp 𝕄)), deal_toks]
  iintro ⟨HI, ⟨Hat, #HR⟩, Htok⟩
  ihave HK := (BI.bigSep_exists_pi Finset.univ (fun (ck : Dev nD × Fin 13) (κ : ℕ) => (cellInv ER (Rd (insOf m)) κ (kcell ck) : sProp 𝕄))) $$ HI
  icases HK with ⟨%K, #HI⟩
  iapply (share_out (R := known m K) (Φ := held) fun c _ => show iprop(known m K ∗ held c) ⊢ G' m c by
    unfold G'
    iintro H
    iexists K
    iexact H)
  isplitr
  · unfold known
    isplitl; · iexact HI
    iexact HR
  · unfold held
    rw [bigSep_sep']
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch's credit -/

/-- What all devices together owe each of a device's cells. -/
def want (i : Fin 13) : ℕ := if i = 0 then 2 else if i = 4 ∨ i = 5 ∨ i = 6 ∨ i = 10 ∨ i = 11 ∨ i = 12 then N else 0

theorem owed_sum (c : Dev nD) (i : Fin 13) : ∑ d : Dev nD, owe (dues d) (kcell (c, i)) () = want i := by
  simp only [dues, owe, Pi.add_apply, Finsupp.add_apply, tallyAt_apply, Pi.zero_apply, Finsupp.coe_zero, kcell_injective.eq_iff, Prod.mk.injEq, and_true]
  revert c i; decide

theorem launch_cell (c : Dev nD) (i : Fin 13) :
    tallyOn (kcell (c, i)) (launchCredit (Pipeline.owing fun d => owe (dues d)) 0 (kcell (c, i))) = (tallyAt (kcell (c, i)) () (want i) : CellTallies nD τ sig Unit) := by
  unfold tallyAt; refine congrArg _ (Finsupp.ext fun u => ?_); cases u
  rw [Pipeline.launchCredit_owing, Finsupp.single_eq_same, owed_sum]

theorem creds (c : Dev nD) : (Pipeline.launchCred (fun d => owe (dues d)) c : sProp 𝕄) ⊢ bigSep Finset.univ fun i : Fin 13 => cred (tallyAt (kcell (c, i)) () (want i)) := by
  unfold Pipeline.launchCred
  refine BI.Entails.trans (bigSep_subset (t := Finset.univ.map ⟨csem, csem_injective⟩) (Finset.subset_univ _)) ?_
  rw [bigSep_map]
  exact bigSep_mono fun i _ => Entails.of_eq (congrArg cred (launch_cell c i))

theorem start_intro (c : Dev nD) :
    iprop(Pipeline.unscopedRestP Pipeline.Prefetch.none cfg0.spec c (fun b => m ((c : Thread nD τ).loc b)) ∗ levAts L lv
        ∗ Pipeline.launchCred (fun d => owe (dues d)) c ∗ prngReg c (ρ c) ∗ G' m c)
      ⊢ |={Set.univ}=> iprop(start m c ∗ emp) := by
  unfold G' held known
  iintro ⟨-, #Hlev, Hcr, -, ⟨%K, ⟨#HI, #HR⟩, Hat, Htok⟩⟩
  ihave Hc := ((creds (F := F) c).trans (Entails.of_eq (fin13 _))) $$ Hcr
  ihave Ha := (Entails.of_eq (fin13 _)) $$ Hat
  ihave Ht := (Entails.of_eq (fin14 _)) $$ Htok
  icases Hc with ⟨C0, -, -, -, C4, C5, C6, -, -, -, C10, C11, C12⟩
  icases Ha with ⟨A0, A1, A2, A3, A4, A5, A6, A7, A8, A9, A10, A11, A12⟩
  icases Ht with ⟨T0, T1, T2, T3, T4, T5, T6, T7, T8, T9, T10, T11, T12, T13⟩
  imodintro
  isplitl
  · unfold start
    iexists K
    isplitr
    · unfold recs
      isplitr; · iexact HI
      isplitr; · iexact HR
      iexact Hlev
    unfold rights
    isplitl [C0 A0 T13 T0]
    · unfold shake
      isplitl [C0]; · iexact C0
      isplitl [A0]; · iexact A0
      isplitl [T13]; · iexact T13
      iexact T0
    unfold due post toks
    isplitl [C4 C5 C6 C10 C11 C12 A4 A5 A6 A10 A11 A12]
    · isplitl [C4 A4]
      · isplitl [C4]; · iexact C4
        iexact A4
      isplitl [C5 A5]
      · isplitl [C5]; · iexact C5
        iexact A5
      isplitl [C6 A6]
      · isplitl [C6]; · iexact C6
        iexact A6
      isplitl [C10 A10]
      · isplitl [C10]; · iexact C10
        iexact A10
      isplitl [C11 A11]
      · isplitl [C11]; · iexact C11
        iexact A11
      isplitl [C12]; · iexact C12
      iexact A12
    isplitl [A1 T1 T4]
    · isplitl [T1 T4]; · isplitl [T1]; · iexact T1
                         iexact T4
      iexact A1
    isplitl [A2 T2 T5]
    · isplitl [T2 T5]; · isplitl [T2]; · iexact T2
                         iexact T5
      iexact A2
    isplitl [A3 T3 T6]
    · isplitl [T3 T6]; · isplitl [T3]; · iexact T3
                         iexact T6
      iexact A3
    isplitl [A7 T7 T10]
    · isplitl [T7 T10]; · isplitl [T7]; · iexact T7
                          iexact T10
      iexact A7
    isplitl [A8 T8 T11]
    · isplitl [T8 T11]; · isplitl [T8]; · iexact T8
                          iexact T11
      iexact A8
    isplitl [T9 T12]; · isplitl [T9]; · iexact T9
                        iexact T12
    iexact A9
  · iempintro

theorem some_whole (c : Dev nD) (b : Ref sig .tc) :
    (iprop(∃ X : b.ty.Contents (Elt F), owns (c : Thread nD τ) (Memref.whole b) fullShare X) : sProp 𝕄)
      = iprop(∃ f : Buf (Elt F) ((c : Thread nD τ).loc b), ((c : Thread nD τ).loc b) ↦{fullShare} f) := by
  have h1 : (iprop(∃ X : b.ty.Contents (Elt F), owns (c : Thread nD τ) (Memref.whole b) fullShare X) : sProp 𝕄)
      ⊢ iprop(∃ f : Buf (Elt F) ((c : Thread nD τ).loc b), ((c : Thread nD τ).loc b) ↦{fullShare} f) := by
    iintro ⟨%X, H⟩
    ihave H := (Entails.of_eq (owns_whole_eq (c : Thread nD τ) b fullShare X)) $$ H
    icases H with ⟨%f, -, H⟩
    iexists f; iexact H
  have h2 : (iprop(∃ f : Buf (Elt F) ((c : Thread nD τ).loc b), ((c : Thread nD τ).loc b) ↦{fullShare} f) : sProp 𝕄)
      ⊢ iprop(∃ X : b.ty.Contents (Elt F), owns (c : Thread nD τ) (Memref.whole b) fullShare X) := by
    iintro ⟨%f, H⟩
    iexists f
    iapply (Entails.of_eq (owns_whole_eq (c : Thread nD τ) b fullShare f).symm)
    iexists f
    isplitr; · ipureintro; rfl
    iexact H
  exact BI.Entails.antisymm h1 h2

theorem scratch_eq (c : Dev nD) : (scratch c : sProp 𝕄) = Pipeline.scopedRest cfg0.spec c := by
  rw [show (Pipeline.scopedRest cfg0.spec c : sProp 𝕄) = Pipeline.scopedRest spec0 c from rfl, scopedRest0_eq, ← some_whole c cc0_scratch0, ← some_whole c cc0_scratch1,
    ← some_whole c cc0_scratch2, ← some_whole c cc0_scratch3, ← some_whole c cc0_scratch4, ← some_whole c cc0_scratch5]
  rfl

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ scratch c) from rfl, scratch_eq]
  iintro ⟨Hs, -, Hr⟩
  isplitl [Hs]; · iexact Hs
  iexact Hr

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = iprop(scratch c ∗ zeros c) from rfl, scratch_eq, sems0_eq]
  iintro ⟨Hr, Hu, Ho⟩
  isplitl [Hu]; · iexact Hu
  isplitl [Ho]; · iexact Ho
  iexact Hr

theorem mayWait_stage (c : Dev nD) (q : DmaSem sig) (hq : q.val < 6) (O : CellTallies nD τ sig Unit) (hO : O = owe (dues c) ∨ O = 0) :
    (levAts L lv : sProp 𝕄) ⊢ MayWait (c : Thread nD τ) (.dma q) () O := by
  rcases hO with rfl | rfl
  · have hc : lvl (code (.dma q : SemLoc sig)) = 0 := by
      have : code (.dma q : SemLoc sig) = 13 := if_pos hq
      rw [this]; rfl
    exact mayWait c (.dma q) (dues c) (dues_tc c 0) (by rw [hc]; exact dues_lvl c 0 0 (by decide))
  · rw [MayWait_zero]; iintro -; iempintro

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

def QC : PUnit × MemSt nD τ sig (Elt F) → Prop := fun r =>
  ∀ c : Dev nD, ∀ w : Fin cfg0.W, r.2.mem ((cfg0.win w).arr.view.loc (c : Thread nD τ)) = (dats m 0 c).arrAt w cfg0.N

set_option maxRecDepth 16000 in
/-- Every run ends, with each window's array at its final contents and every semaphore counter at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := fun d => owe (dues d)) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments end as they began. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => ⟨(h.1 c (0 : Fin 6)).trans ((dats m 0 c).arrAt_in (0 : Fin 6) rfl _),
      (h.1 c (1 : Fin 6)).trans ((dats m 0 c).arrAt_in (1 : Fin 6) rfl _),
      (h.1 c (3 : Fin 6)).trans ((dats m 0 c).arrAt_in (3 : Fin 6) rfl _),
      (h.1 c (4 : Fin 6)).trans ((dats m 0 c).arrAt_in (4 : Fin 6) rfl _),
      (h.1 c (2 : Fin 6)).trans ((dats m 0 c).arrAt_in (2 : Fin 6) rfl _)⟩, h.2⟩) (run_main m ρ)

end Cert.KernelIdealProof

end
-- ==== Proof.Frames.lean ====
/-
  The frames: each program runs to its end from every launch memory, its arguments unchanged and every counter at zero.
  The two prints of the kernel have theirs from the launch (`run_frame` of the two Launch modules); the reference, a list
  of host operations with no semaphore, has its own from its run.
-/
module

public import proofs.«01_k».proof.Defs
public import proofs.«01_k».proof.Proof.Finite
public import proofs.«01_k».proof.Proof.Kernel.Launch
public import proofs.«01_k».proof.Proof.KernelIdeal.Launch
public import proofs.«01_k».proof.Proof.Gen.ReferenceIdeal.Run
public import Idealize.ShloMosaic.Lib.Quiescent

@[expose] public section

noncomputable section

namespace Cert.Proof

open Idealize.ShloMosaic Idealize.SL.Sem

theorem frame_kernel : Cert.quiescent_Kernel (hKernel := Cert.Kernel.Gen.facts) :=
  fun m g _ => Cert.KernelProof.run_frame m g

theorem frame_kernelIdeal : Cert.quiescent_KernelIdeal (hKernelIdeal := Cert.KernelIdeal.Gen.facts) :=
  fun m g _ => Cert.KernelIdealProof.run_frame m g

/-- The precondition is not needed for a frame. -/
theorem frame_kernelIdeal_pre : Cert.quiescent_KernelIdeal_pre_scores_finite_KernelIdeal (hKernelIdeal := Cert.KernelIdeal.Gen.facts)
    (hPre_scores_finite_KernelIdeal := Cert.Finite.facts_blocks) :=
  fun m g _ => Cert.KernelIdealProof.run_frame m g

theorem frame_reference : Cert.quiescent_ReferenceIdeal (hReferenceIdeal := Cert.ReferenceIdeal.Gen.facts) :=
  fun m g _ => (θ_run Cert.ReferenceIdeal.defs _ _).mono
    (fun r h => ⟨fun c => (h c).2, sem_eq_zero_of_no_sems (by decide) r.2⟩)
    (Cert.ReferenceIdeal.Value.run (F := Ideal) m g)

theorem frame_reference_pre : Cert.quiescent_ReferenceIdeal_pre_scores_finite_ReferenceIdeal (hReferenceIdeal := Cert.ReferenceIdeal.Gen.facts)
    (hPre_scores_finite_ReferenceIdeal := Cert.Finite.facts_whole) :=
  fun m g _ => frame_reference m g trivial

end Cert.Proof

end
-- ==== Proof.KernelIdeal.Read.lean ====
/-
  The kernel's result, read at an index: the running sums around the ring add, over the devices, each device's eight
  heads' shares of the row.
-/
module

public import proofs.«01_k».proof.Proof.KernelIdeal.Values
public import proofs.«01_k».proof.Proof.Attend
public import Idealize.ShloMosaic.Lib.Pointwise
public import Idealize.ShloMosaic.Lib.IdealHost

@[expose] public section

set_option maxRecDepth 16384

noncomputable section

namespace Cert.KernelIdealProof

open Cert.KernelIdeal Cert.KernelIdeal.Gen
open Idealize.ShloMosaic Idealize.SL.Sem
open Idealize.ShloMosaic.Pointwise Cert.Attend

/-! ## Sections and columns at an index -/

/-- Row `r` of section `j`. -/
def rowOf (j : Fin 4) (r : Fin 256) : Fin 1024 := ⟨256 * j.val + r.val, by omega⟩
/-- Column `e` of a device's head `h`, among the device's columns; -/
def lane (h : Fin 8) (e : Fin 128) : Fin 1024 := ⟨128 * h.val + e.val, by omega⟩
/-- column `l` of device `d`, among all the columns. -/
def wide (d : Fin 4) (l : Fin 1024) : Fin 4096 := ⟨1024 * d.val + l.val, by omega⟩

theorem wide_lane (d : Fin 4) (h : Fin 8) (e : Fin 128) : wide d (lane h e) = col (headOf d h) e :=
  Fin.ext (by show 1024 * d.val + (128 * h.val + e.val) = 128 * (8 * d.val + h.val) + e.val; omega)

theorem rowOf_split (i : Fin 1024) : rowOf ⟨i.val / 256, by omega⟩ ⟨i.val % 256, by omega⟩ = i :=
  Fin.ext (by show 256 * (i.val / 256) + i.val % 256 = i.val; omega)

section Cols
variable {α : Type}

theorem qsub_apply (A : S1024x1024.Idx → α) (j : Fin 4) (h : Fin 8) (r : Fin 256) (e : Fin 128) :
    qsub A j h (ix2 r e) = A (ix2 (rowOf j r) (lane h e)) := by
  unfold qsub
  congr 1
  funext a
  fin_cases a
  · apply Fin.ext; show 256 * j.val + 1 * r.val = 256 * j.val + r.val; omega
  · apply Fin.ext; show 128 * h.val + 1 * e.val = 128 * h.val + e.val; omega

theorem kvsub_apply (A : S1024x1024.Idx → α) (h : Fin 8) (i : Fin 1024) (e : Fin 128) :
    kvsub A h (ix2 i e) = A (ix2 i (lane h e)) := by
  unfold kvsub
  congr 1
  funext a
  fin_cases a
  · apply Fin.ext; show 0 + 1 * i.val = i.val; omega
  · apply Fin.ext; show 128 * h.val + 1 * e.val = 128 * h.val + e.val; omega

theorem rows_apply (g : Fin 4 → S256x1024.Idx → α) (i l : Fin 1024) :
    rows g (ix2 i l) = g ⟨i.val / 256, by omega⟩ (ix2 ⟨i.val % 256, by omega⟩ l) := by
  unfold rows
  congr 1
  funext a
  fin_cases a <;> rfl

end Cols

/-! ## One head -/

theorem headCtx_apply (q : Vec Ideal S256x128 .bf16) (k v : Vec Ideal S1024x128 .bf16) (r : Fin 256) (e : Fin 128) :
    headCtx q k v (ix2 r e) = (∑ j, Ideal.exp (∑ e', q (ix2 r e') * k (ix2 j e')) * v (ix2 j e))
      * Ideal.div 1 (∑ j, Ideal.exp (∑ e', q (ix2 r e') * k (ix2 j e'))) := by
  unfold headCtx k0_pay38
  pointwise

/-- The rows of the output weights a head takes, at an index. -/
theorem headOut_apply (w : FVec Ideal S1024x1024 .bf16) (h : Fin 8) {o : ℕ} (ho : o = 128 * h.val) (hs : S1024x1024.Slices ![o, 0] S128x1024)
    (q : Vec Ideal S256x128 .bf16) (k v : Vec Ideal S1024x128 .bf16) (r : Fin 256) (n : Fin 1024) :
    headOut w ![o, 0] hs q k v (ix2 r n) = ∑ e, headCtx q k v (ix2 r e) * w (ix2 (lane h e) n) := by
  subst ho
  unfold headOut
  pointwise
  rfl

/-! ## The projections -/

section Device
variable (I : Ins Ideal)

theorem qb_apply (c : Dev nD) (j : Fin 4) (r : Fin 256) (l : Fin 1024) :
    qb I c j (ix2 r l) = (∑ k, I.x j (ix3 0 r k) * I.wq c (ix2 k l)) * Ideal.ofBits .f32 0x3DB504F3#32 := by
  unfold qb k0_pay7 wqb k0_pay1 xb k0_pay6 k0_pay5
  pointwise

theorem kb_apply (c : Dev nD) (j : Fin 4) (r : Fin 256) (l : Fin 1024) :
    kb I c j (ix2 r l) = ∑ k, I.x j (ix3 0 r k) * I.wk c (ix2 k l) := by
  unfold kb k0_pay8 wkb k0_pay2 xb k0_pay6 k0_pay5
  pointwise

theorem vb_apply (c : Dev nD) (j : Fin 4) (r : Fin 256) (l : Fin 1024) :
    vb I c j (ix2 r l) = ∑ k, I.x j (ix3 0 r k) * I.wv c (ix2 k l) := by
  unfold vb k0_pay10 k0_pay9 wvb k0_pay3 xb k0_pay6 k0_pay5
  pointwise

theorem wob_apply (c : Dev nD) (l n : Fin 1024) : wob I c (ix2 l n) = I.wo c (ix2 l n) := by
  unfold wob k0_pay4
  pointwise

/-- The three devices before `c` and `c` itself are all of them. -/
theorem sum_ring (f : Dev nD → EReal) (c : Dev nD) :
    f (prv (prv (prv c))) + f (prv (prv c)) + f (prv c) + f c = ∑ d : Fin 4, f d := by
  have h : ∀ c : Dev nD, (prv (prv (prv c)) = 1 ∧ prv (prv c) = 2 ∧ prv c = 3 ∧ c = 0) ∨ (prv (prv (prv c)) = 2 ∧ prv (prv c) = 3 ∧ prv c = 0 ∧ c = 1)
      ∨ (prv (prv (prv c)) = 3 ∧ prv (prv c) = 0 ∧ prv c = 1 ∧ c = 2) ∨ (prv (prv (prv c)) = 0 ∧ prv (prv c) = 1 ∧ prv c = 2 ∧ c = 3) := by decide
  rw [Fin.sum_univ_four]
  rcases h c with ⟨h1, h2, h3, h4⟩ | ⟨h1, h2, h3, h4⟩ | ⟨h1, h2, h3, h4⟩ | ⟨h1, h2, h3, h4⟩ <;> rw [h1, h2, h3, h4] <;> ac_rfl

theorem back_prv_1 (c : Dev nD) : back (prv (prv (prv c))) 1 = c := by revert c; decide
theorem back_prv_2 (c : Dev nD) : back (prv (prv c)) 2 = c := by revert c; decide
theorem back_prv_3 (c : Dev nD) : back (prv c) 3 = c := by revert c; decide

/-- The sums the ring carries: device `c`'s result is the four devices' parts of its section. -/
theorem out_apply (c : Dev nD) (r : Fin 256) (n : Fin 1024) :
    out I c (ix3 0 r n) = ∑ d : Fin 4, part I d c (ix2 r n) := by
  rw [← sum_ring (fun d => part I d c (ix2 r n)) c]
  unfold out sum2 sum1 sum0 step
  rw [back_prv_1, back_prv_2, back_prv_3]
  pointwise

/-! ## Against the whole arrays -/

variable (X : Fin 1024 → Fin 1024 → EReal) (Wq Wk Wv : Fin 1024 → Fin 4096 → EReal) (Wo : Fin 4096 → Fin 1024 → EReal)

/-- The staged inputs are the devices' blocks of whole arrays. -/
structure Blocks : Prop where
  x : ∀ d r k, I.x d (ix3 0 r k) = X (rowOf d r) k
  wq : ∀ d k l, I.wq d (ix2 k l) = Wq k (wide d l)
  wk : ∀ d k l, I.wk d (ix2 k l) = Wk k (wide d l)
  wv : ∀ d k l, I.wv d (ix2 k l) = Wv k (wide d l)
  wo : ∀ d l n, I.wo d (ix2 l n) = Wo (wide d l) n

variable {I X Wq Wk Wv Wo} (B : Blocks I X Wq Wk Wv Wo)
include B

theorem qg_apply (c : Dev nD) (i l : Fin 1024) :
    qg I c (ix2 i l) = proj X Wq i (wide c l) * Ideal.ofBits .f32 0x3DB504F3#32 := by
  unfold qg
  rw [rows_apply, qb_apply]
  simp only [B.x, B.wq, rowOf_split]
  rfl

theorem kg_apply (c : Dev nD) (i l : Fin 1024) : kg I c (ix2 i l) = proj X Wk i (wide c l) := by
  unfold kg
  rw [rows_apply, kb_apply]
  simp only [B.x, B.wk, rowOf_split]
  rfl

theorem vg_apply (c : Dev nD) (i l : Fin 1024) : vg I c (ix2 i l) = proj X Wv i (wide c l) := by
  unfold vg
  rw [rows_apply, vb_apply]
  simp only [B.x, B.wv, rowOf_split]
  rfl

/-- One head's share of a row, from the whole arrays. -/
theorem head_apply (c : Dev nD) (j : Fin 4) (h : Fin 8) {o : ℕ} (ho : o = 128 * h.val) (hs : S1024x1024.Slices ![o, 0] S128x1024)
    (r : Fin 256) (n : Fin 1024) :
    headOut (wob I c) ![o, 0] hs (qsub (qg I c) j h) (kvsub (kg I c) h) (kvsub (vg I c) h) (ix2 r n)
      = ∑ e, ctxQ X Wq Wk Wv (Ideal.ofBits .f32 0x3DB504F3#32) (headOf c h) (rowOf j r) e * Wo (col (headOf c h) e) n := by
  rw [headOut_apply _ h ho]
  refine Finset.sum_congr rfl fun e _ => ?_
  rw [headCtx_apply, wob_apply, B.wo]
  simp only [qsub_apply, kvsub_apply, qg_apply B, kg_apply B, vg_apply B, wide_lane]
  rfl

/-- A device's part of a row: its eight heads' shares. -/
theorem part_apply (c : Dev nD) (j : Fin 4) (r : Fin 256) (n : Fin 1024) :
    part I c j (ix2 r n)
      = ∑ h : Fin 8, ∑ e, ctxQ X Wq Wk Wv (Ideal.ofBits .f32 0x3DB504F3#32) (headOf c h) (rowOf j r) e * Wo (col (headOf c h) e) n := by
  rw [Fin.sum_univ_eight]
  rw [← head_apply B c j 0 rfl slices_S1024x1024_o0_0_S128x1024 r n, ← head_apply B c j 1 rfl slices_S1024x1024_o128_0_S128x1024 r n,
    ← head_apply B c j 2 rfl slices_S1024x1024_o256_0_S128x1024 r n, ← head_apply B c j 3 rfl slices_S1024x1024_o384_0_S128x1024 r n,
    ← head_apply B c j 4 rfl slices_S1024x1024_o512_0_S128x1024 r n, ← head_apply B c j 5 rfl slices_S1024x1024_o640_0_S128x1024 r n,
    ← head_apply B c j 6 rfl slices_S1024x1024_o768_0_S128x1024 r n, ← head_apply B c j 7 rfl slices_S1024x1024_o896_0_S128x1024 r n]
  rfl

/-- The kernel's result at an index. -/
theorem out_eq (c : Dev nD) (r : Fin 256) (n : Fin 1024) :
    out I c (ix3 0 r n) = ∑ d : Fin 4, ∑ h : Fin 8, ∑ e : Fin 128,
      ctxQ X Wq Wk Wv (Ideal.ofBits .f32 0x3DB504F3#32) (headOf d h) (rowOf c r) e * Wo (col (headOf d h) e) n := by
  rw [out_apply]
  exact Finset.sum_congr rfl fun d _ => part_apply B d c r n

end Device

end Cert.KernelIdealProof

end
-- ==== Proof.KernelIdeal.Final.lean ====
/-
  The kernel's run, its values named: each device's result buffer ends at the running sum around the ring, as a function
  of the five arguments of every device.
-/
module

public import proofs.«01_k».proof.Proof.KernelIdeal.Launch
public import Idealize.ShloMosaic.Lib.Pipeline.ValueKit

@[expose] public section

set_option maxRecDepth 16384

noncomputable section

namespace Cert.KernelIdealProof

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-! ## Every window is its whole array: an index of the block is the array's own -/

theorem emb_0 (y : (win0_0.xblock (grid0.coords t0_0)).Idx) : (win0_0.blk t0_0).view.emb y = y := by
  funext a; apply Fin.ext
  exact Pipeline.Window.rect_emb_val_of_index_zero win0_0 t0_0 a (by revert a; decide) y
theorem emb_1 (y : (win0_1.xblock (grid0.coords t0_0)).Idx) : (win0_1.blk t0_0).view.emb y = y := by
  funext a; apply Fin.ext
  exact Pipeline.Window.rect_emb_val_of_index_zero win0_1 t0_0 a (by revert a; decide) y
theorem emb_2 (y : (win0_2.xblock (grid0.coords t0_0)).Idx) : (win0_2.blk t0_0).view.emb y = y := by
  funext a; apply Fin.ext
  exact Pipeline.Window.rect_emb_val_of_index_zero win0_2 t0_0 a (by revert a; decide) y
theorem emb_3 (y : (win0_3.xblock (grid0.coords t0_0)).Idx) : (win0_3.blk t0_0).view.emb y = y := by
  funext a; apply Fin.ext
  exact Pipeline.Window.rect_emb_val_of_index_zero win0_3 t0_0 a (by revert a; decide) y
theorem emb_4 (y : (win0_4.xblock (grid0.coords t0_0)).Idx) : (win0_4.blk t0_0).view.emb y = y := by
  funext a; apply Fin.ext
  exact Pipeline.Window.rect_emb_val_of_index_zero win0_4 t0_0 a (by revert a; decide) y
theorem emb_5 (y : (win0_5.xblock (grid0.coords t0_0)).Idx) : (win0_5.blk t0_0).view.emb y = y := by
  funext a; apply Fin.ext
  exact Pipeline.Window.rect_emb_val_of_index_zero win0_5 t0_0 a (by revert a; decide) y

/-- The staged inputs are the arguments themselves. -/
def args : Ins F where
  x c := m ((c.tc : Thread nD τ).loc main_arg0)
  wq c := m ((c.tc : Thread nD τ).loc main_arg1)
  wo c := m ((c.tc : Thread nD τ).loc main_arg4)
  wk c := m ((c.tc : Thread nD τ).loc main_arg2)
  wv c := m ((c.tc : Thread nD τ).loc main_arg3)

theorem ins_eq : insOf m = args m := by
  unfold insOf args
  congr 1
  · funext c i; blk_simp; rw [emb_0]
  · funext c i; blk_simp; rw [emb_1]
  · funext c i; blk_simp; rw [emb_2]
  · funext c i; blk_simp; rw [emb_3]
  · funext c i; blk_simp; rw [emb_4]

/-- The result's array after the run. -/
theorem final_out (c : Dev nD) : (dats m 0 c).arrAt 5 cfg0.N = out (args m) c := by
  rw [← ins_eq]
  refine (dats m 0 c).arrAt_eq_of_covers 5 _ (by decide +kernel) fun t hf y => ?_
  blk_simp
  obtain rfl : t = t0_0 := Subsingleton.elim (α := Fin 1) t t0_0
  rw [emb_5]
  rfl

theorem run_value : θ_run defs (onTc (τ := τ) (main (F := F))) ⟨m, fun _ => 0, ρ⟩ (fun r => ∀ c : Dev nD,
      r.2.mem ((c.tc : Thread nD τ).loc main_v1) = out (args m) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h.1 c (5 : Fin 6)).trans (final_out m c),
      (h.1 c (0 : Fin 6)).trans ((dats m 0 c).arrAt_in (0 : Fin 6) rfl _),
      (h.1 c (1 : Fin 6)).trans ((dats m 0 c).arrAt_in (1 : Fin 6) rfl _),
      (h.1 c (3 : Fin 6)).trans ((dats m 0 c).arrAt_in (3 : Fin 6) rfl _),
      (h.1 c (4 : Fin 6)).trans ((dats m 0 c).arrAt_in (4 : Fin 6) rfl _),
      (h.1 c (2 : Fin 6)).trans ((dats m 0 c).arrAt_in (2 : Fin 6) rfl _)⟩) (run_main m ρ)

end Cert.KernelIdealProof

end
-- ==== Proof.ReferenceIdeal.Read.lean ====
/-
  The reference's result, read at an index: the sum over the heads' columns of the attention's context times the output
  weights. The composed term is first cut at its shared values, then each cut is read at an index.
-/
module

public import proofs.«01_k».proof.Proof.Gen.ReferenceIdeal.Run
public import Idealize.ShloMosaic.Lib.Pointwise
public import Idealize.ShloMosaic.Lib.IdealHost
public import proofs.«01_k».proof.Proof.Attend

@[expose] public section

set_option maxRecDepth 16384

noncomputable section

namespace Cert.ReferenceIdealProof

open Cert.ReferenceIdeal Cert.ReferenceIdeal.Gen
open Idealize.ShloMosaic Idealize.SL.Sem
open Idealize.ShloMosaic.Pointwise Cert.Attend

section Terms
variable (X : FVec Ideal S1x1024x1024 .f32) (Wq Wk Wv : FVec Ideal S1024x4096 .f32) (Wo : FVec Ideal S4096x1024 .f32)

/-- A projection, its columns cut in heads. -/
def heads (W : FVec Ideal S1024x4096 .f32) : FVec Ideal S1x1024x32x128 .f32 :=
  shapeCast _ (Host.dotGeneral dot_S1x1024x1024_S1024x4096_S1x1024x4096_2_0_01_1_n_n none X W) shapeCasts_S1x1024x4096_S1x1024x32x128

/-- The scaled scores of every head. -/
def scores : FVec Ideal S1x32x1024x1024 .f32 :=
  mulf (Host.dotGeneral dot_S1x1024x32x128_S1x1024x32x128_S1x32x1024x1024_3_3_1_1_02_02 none (heads X Wq) (heads X Wk))
    (broadcastInDim S1x32x1024x1024 ![] bcast_S_S1x32x1024x1024 (constant S_ .f32 0x3DB504F3#32))

/-- Each row's largest score. -/
def maxs (s : FVec Ideal S1x32x1024x1024 .f32) : FVec Ideal S1x32x1024 .f32 :=
  Host.reduce FloatOps.maximumf s (constant S_ .f32 0xFF800000#32) reducesTo_S1x32x1024x1024_S1x32x1024_d3 h_S_

/-- The running maximum after the one block of keys. -/
def top (x : FVec Ideal S1x32x1024 .f32) : FVec Ideal S1x32x1024x1 .f32 :=
  maximumf (broadcastInDim S1x32x1024x1 ![] bcast_S_S1x32x1024x1 (constant S_ .f32 0xFF800000#32))
    (broadcastInDim S1x32x1024x1 ![0, 1, 2] bcast_S1x32x1024_S1x32x1024x1_0_1_2 x)

/-- The factor a former running sum is scaled by. -/
def decay (t : FVec Ideal S1x32x1024x1 .f32) : FVec Ideal S1x32x1024x1 .f32 :=
  Host.exp (subf (broadcastInDim S1x32x1024x1 ![] bcast_S_S1x32x1024x1 (constant S_ .f32 0xFF800000#32)) t)

/-- The exponentials of the scores less their maximum. -/
def weights (s : FVec Ideal S1x32x1024x1024 .f32) (t : FVec Ideal S1x32x1024x1 .f32) : FVec Ideal S1x32x1024x1024 .f32 :=
  Host.exp (subf s (broadcastInDim S1x32x1024x1024 ![0, 1, 2, 3] bcast_S1x32x1024x1_S1x32x1024x1024_0_1_2_3 t))

/-- The weighted sum of the values. -/
def numer (V : FVec Ideal S1x1024x32x128 .f32) (p : FVec Ideal S1x32x1024x1024 .f32) (a : FVec Ideal S1x32x1024x1 .f32) : FVec Ideal S1x1024x32x128 .f32 :=
  addf (mulf (broadcastInDim S1x1024x32x128 ![] bcast_S_S1x1024x32x128 (constant S_ .f32 0x00000000#32))
      (broadcastInDim S1x1024x32x128 ![0, 1, 2, 3] bcast_S1x1024x32x1_S1x1024x32x128_0_1_2_3
        (transpose S1x1024x32x1 [0, 2, 1, 3] a transposes_S1x32x1024x1_S1x1024x32x1_0_2_1_3)))
    (transpose S1x1024x32x128 [0, 3, 1, 2] (Host.dotGeneral dot_S1x1024x32x128_S1x32x1024x1024_S1x32x128x1024_1_3_3_2_02_01 none V p)
      transposes_S1x32x128x1024_S1x1024x32x128_0_3_1_2)

/-- The sum of the weights. -/
def denom (p : FVec Ideal S1x32x1024x1024 .f32) (a : FVec Ideal S1x32x1024x1 .f32) : FVec Ideal S1x32x1024x1 .f32 :=
  addf (mulf (broadcastInDim S1x32x1024x1 ![] bcast_S_S1x32x1024x1 (constant S_ .f32 0x00000000#32)) a)
    (broadcastInDim S1x32x1024x1 ![0, 1, 2] bcast_S1x32x1024_S1x32x1024x1_0_1_2
      (Host.reduceAdd p (constant S_ .f32 0x00000000#32) reducesTo_S1x32x1024x1024_S1x32x1024_d3 h_S_))

/-- The attention's context, its heads side by side. -/
def context (n : FVec Ideal S1x1024x32x128 .f32) (d : FVec Ideal S1x32x1024x1 .f32) : FVec Ideal S1x1024x4096 .f32 :=
  shapeCast _ (Host.divf n (broadcastInDim S1x1024x32x128 ![0, 1, 2, 3] bcast_S1x1024x32x1_S1x1024x32x128_0_1_2_3
    (transpose S1x1024x32x1 [0, 2, 1, 3] d transposes_S1x32x1024x1_S1x1024x32x1_0_2_1_3))) shapeCasts_S1x1024x32x128_S1x1024x4096

/-- The reference's result. -/
def result : FVec Ideal S1x1024x1024 .f32 :=
  let s := scores X Wq Wk
  let a := decay (top (maxs s))
  let p := weights s (top (maxs s))
  Host.dotGeneral dot_S1x1024x4096_S4096x1024_S1x1024x1024_2_0_01_1_n_n none
    (context (numer (heads X Wv) p a) (denom p a)) Wo
end Terms

theorem res_eq (m : (ℓ : Loc nD τ sig) → Buf (Elt Ideal) ℓ) (c : Dev nD) :
    Value.res_main_v34 m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

/-- A rank-two array as a function of a row and a column; -/
abbrev mat {a b : ℕ} (A : (⟨2, ![a, b]⟩ : Shape).Idx → EReal) (i : Fin a) (j : Fin b) : EReal := A (ix2 i j)
/-- the activations likewise. -/
abbrev act (A : FVec Ideal S1x1024x1024 .f32) (i k : Fin 1024) : EReal := A (ix3 0 i k)
/-- The scale both programs print. -/
abbrev scale : EReal := Ideal.ofBits .f32 0x3DB504F3#32

theorem scale_real : IsReal scale := by
  unfold scale Ideal.ofBits Ideal.ieee
  dsimp only
  rw [if_neg (by decide), if_neg (by decide)]
  exact ⟨_, rfl⟩

theorem ofBits_neg_inf : Ideal.ofBits .f32 0xFF800000#32 = ⊥ := by simp [Ideal.ofBits, Ideal.ieee]

theorem heads_apply (X : FVec Ideal S1x1024x1024 .f32) (W : FVec Ideal S1024x4096 .f32) (i : Fin 1024) (h : Fin 32) (e : Fin 128) :
    heads X W (ix4 0 i h e) = proj (act X) (mat W) i (col h e) := by
  have hc : ∀ p, (⟨h.val * 128 + e.val, p⟩ : Fin 4096) = col h e := fun p => Fin.ext (by show h.val * 128 + e.val = 128 * h.val + e.val; omega)
  pointwise [heads]
  simp only [hc]
  rfl

theorem scores_apply (X : FVec Ideal S1x1024x1024 .f32) (Wq Wk : FVec Ideal S1024x4096 .f32) (h : Fin 32) (i j : Fin 1024) :
    scores X Wq Wk (ix4 0 h i j) = scoreP (act X) (mat Wq) (mat Wk) scale h i j := by
  pointwise [scores]
  simp only [heads_apply]
  rfl

/-- A maximum over the last of four axes, at an index. -/
theorem reduce_max_last {n₀ n₁ n₂ n₃ : ℕ} {u : Shape} (s : FVec Ideal ⟨4, ![n₀, n₁, n₂, n₃]⟩ .f32) (init : FVec Ideal u .f32)
    (hr : (⟨4, ![n₀, n₁, n₂, n₃]⟩ : Shape).ReducesTo [3] ⟨3, ![n₀, n₁, n₂]⟩) (hu : 0 < u.numel) (a : Fin n₀) (b : Fin n₁) (c : Fin n₂) :
    Host.reduce FloatOps.maximumf s init hr hu (ix3 a b c)
      = Finset.fold max (init (Shape.Idx.first hu)) (fun j => s (ix4 a b c j)) Finset.univ := by
  rw [Host.reduce_eq_fold, Shape.ReducesTo.fold_fiber_r4_a3]
  rfl

theorem maxs_apply (s : FVec Ideal S1x32x1024x1024 .f32) (h : Fin 32) (i : Fin 1024) :
    maxs s (ix3 0 h i) = Finset.fold max ⊥ (fun j => s (ix4 0 h i j)) Finset.univ := by
  rw [← ofBits_neg_inf]
  exact reduce_max_last s _ reducesTo_S1x32x1024x1024_S1x32x1024_d3 h_S_ 0 h i

theorem top_apply (x : FVec Ideal S1x32x1024 .f32) (h : Fin 32) (i : Fin 1024) :
    top x (ix4 0 h i 0) = max ⊥ (x (ix3 0 h i)) := by
  pointwise [top]
  rw [ofBits_neg_inf]

theorem decay_apply (t : FVec Ideal S1x32x1024x1 .f32) (h : Fin 32) (i : Fin 1024) :
    decay t (ix4 0 h i 0) = Ideal.exp (⊥ - t (ix4 0 h i 0)) := by
  pointwise [decay]
  rw [ofBits_neg_inf]

theorem weights_apply (s : FVec Ideal S1x32x1024x1024 .f32) (t : FVec Ideal S1x32x1024x1 .f32) (h : Fin 32) (i j : Fin 1024) :
    weights s t (ix4 0 h i j) = Ideal.exp (s (ix4 0 h i j) - t (ix4 0 h i 0)) := by
  pointwise [weights]

theorem numer_apply (V : FVec Ideal S1x1024x32x128 .f32) (p : FVec Ideal S1x32x1024x1024 .f32) (a : FVec Ideal S1x32x1024x1 .f32)
    (h : Fin 32) (i : Fin 1024) (e : Fin 128) :
    numer V p a (ix4 0 i h e) = 0 * a (ix4 0 h i 0) + ∑ j, V (ix4 0 j h e) * p (ix4 0 h i j) := by
  pointwise [numer]

theorem denom_apply (p : FVec Ideal S1x32x1024x1024 .f32) (a : FVec Ideal S1x32x1024x1 .f32) (h : Fin 32) (i : Fin 1024) :
    denom p a (ix4 0 h i 0) = 0 * a (ix4 0 h i 0) + ∑ j, p (ix4 0 h i j) := by
  pointwise [denom]

theorem context_apply (n : FVec Ideal S1x1024x32x128 .f32) (d : FVec Ideal S1x32x1024x1 .f32) (i : Fin 1024) (l : Fin 4096) :
    context n d (ix3 0 i l) = Ideal.div (n (ix4 0 i ⟨l.val / 128, by omega⟩ ⟨l.val % 128, by omega⟩)) (d (ix4 0 ⟨l.val / 128, by omega⟩ i 0)) := by
  pointwise [context]

section Result
variable (X : FVec Ideal S1x1024x1024 .f32) (Wq Wk Wv : FVec Ideal S1024x4096 .f32) (Wo : FVec Ideal S4096x1024 .f32)

theorem topP_apply (h : Fin 32) (i : Fin 1024) :
    top (maxs (scores X Wq Wk)) (ix4 0 h i 0) = topP (act X) (mat Wq) (mat Wk) scale h i := by
  rw [top_apply, maxs_apply]
  simp only [scores_apply]
  rfl

theorem result_sum (i n : Fin 1024) :
    result X Wq Wk Wv Wo (ix3 0 i n) = ∑ l : Fin 4096,
      ctxP (act X) (mat Wq) (mat Wk) (mat Wv) scale ⟨l.val / 128, by omega⟩ i ⟨l.val % 128, by omega⟩ * Wo (ix2 l n) := by
  pointwise [result]
  simp only [context_apply, numer_apply, denom_apply, weights_apply, decay_apply, topP_apply, scores_apply, heads_apply]
  rfl

/-- The result at an index: over the devices' heads and their columns, the context times the output weights. -/
theorem result_apply (i n : Fin 1024) :
    result X Wq Wk Wv Wo (ix3 0 i n) = ∑ d : Fin 4, ∑ h : Fin 8, ∑ e : Fin 128,
      ctxP (act X) (mat Wq) (mat Wk) (mat Wv) scale (headOf d h) i e * mat Wo (col (headOf d h) e) n := by
  rw [result_sum, ← sum_cols fun h e => ctxP (act X) (mat Wq) (mat Wk) (mat Wv) scale h i e * mat Wo (col h e) n]
  refine Finset.sum_congr rfl fun l _ => ?_
  congr 3
  exact Fin.ext (by show l.val = 128 * (l.val / 128) + l.val % 128; omega)
end Result

end Cert.ReferenceIdealProof

end
-- ==== Proof.Equal.lean ====
/-
  The two programs' results agree on real scores: device by device the kernel ends with its rows of the reference's
  result. Both are read at an index; the rows of attention agree by `Attend.ctx_eq`.
-/
module

public import proofs.«01_k».proof.Defs
public import proofs.«01_k».proof.Proof.Finite
public import proofs.«01_k».proof.Proof.KernelIdeal.Read
public import proofs.«01_k».proof.Proof.KernelIdeal.Final
public import proofs.«01_k».proof.Proof.ReferenceIdeal.Read

@[expose] public section

set_option maxRecDepth 16384

noncomputable section

namespace Cert.Proof

open Idealize.ShloMosaic Idealize.SL.Sem
open Idealize.ShloMosaic.Pointwise
open Cert.Attend Cert.KernelIdealProof
open Cert.ReferenceIdealProof (mat act scale scale_real result result_apply res_eq)

/-! ## Blocks at an index -/

section Blocks
variable (c : Fin 4)

theorem block_act (A : (⟨3, ![1, 1024, 1024]⟩ : Shape).Idx → EReal) (r : Fin 256) (k : Fin 1024) :
    Layout.block ⟨3, ![1, 256, 1024]⟩ ⟨3, ![1, 1024, 1024]⟩ 1 4 c A (by decide) (ix3 0 r k) = A (ix3 0 (rowOf c r) k) := by
  rw [Layout.block_apply]
  congr 1
  funext a
  fin_cases a
  · rfl
  · apply Fin.ext; show c.val * 256 + r.val = 256 * c.val + r.val; omega
  · rfl

theorem block_cols (A : (⟨2, ![1024, 4096]⟩ : Shape).Idx → EReal) (k l : Fin 1024) :
    Layout.block ⟨2, ![1024, 1024]⟩ ⟨2, ![1024, 4096]⟩ 1 4 c A (by decide) (ix2 k l) = A (ix2 k (wide c l)) := by
  rw [Layout.block_apply]
  congr 1
  funext a
  fin_cases a
  · rfl
  · apply Fin.ext; show c.val * 1024 + l.val = 1024 * c.val + l.val; omega

theorem block_rows (A : (⟨2, ![4096, 1024]⟩ : Shape).Idx → EReal) (l n : Fin 1024) :
    Layout.block ⟨2, ![1024, 1024]⟩ ⟨2, ![4096, 1024]⟩ 0 4 c A (by decide) (ix2 l n) = A (ix2 (wide c l) n) := by
  rw [Layout.block_apply]
  congr 1
  funext a
  fin_cases a
  · apply Fin.ext; show c.val * 1024 + l.val = 1024 * c.val + l.val; omega
  · rfl

end Blocks

/-! ## The result -/

/-- Every column is some device's. -/
theorem wide_split (l : Fin 4096) : wide ⟨l.val / 1024, by omega⟩ ⟨l.val % 1024, by omega⟩ = l :=
  Fin.ext (by show 1024 * (l.val / 1024) + l.val % 1024 = l.val; omega)

section Result
variable {I : Ins Ideal} {A₀ : (⟨3, ![1, 1024, 1024]⟩ : Shape).Idx → EReal} {A₁ A₂ A₃ : (⟨2, ![1024, 4096]⟩ : Shape).Idx → EReal}
  {A₄ : (⟨2, ![4096, 1024]⟩ : Shape).Idx → EReal}

theorem out_block (B : Blocks I (act A₀) (mat A₁) (mat A₂) (mat A₃) (mat A₄)) (hx : ∀ d i, IsReal (I.x d i))
    (hq : ∀ d i, IsReal (I.wq d i)) (hk : ∀ d i, IsReal (I.wk d i)) (c : Fin 4) :
    out I c = Layout.block ⟨3, ![1, 256, 1024]⟩ ⟨3, ![1, 1024, 1024]⟩ 1 4 c (result A₀ A₁ A₂ A₃ A₄) (by decide) := by
  have hX : ∀ i k, IsReal (act A₀ i k) := fun i k => by
    rw [← rowOf_split i, ← B.x]; exact hx _ _
  have hQ : ∀ k l, IsReal (mat A₁ k l) := fun k l => by
    rw [← wide_split l, ← B.wq]; exact hq _ _
  have hK : ∀ k l, IsReal (mat A₂ k l) := fun k l => by
    rw [← wide_split l, ← B.wk]; exact hk _ _
  funext i
  obtain ⟨r, n, rfl⟩ : ∃ (r : Fin 256) (n : Fin 1024), i = ix3 (0 : Fin 1) r n :=
    ⟨i 1, i 2, by rw [← Subsingleton.elim (α := Fin 1) (i 0) 0]; exact eq_ix3 i⟩
  rw [block_act, out_eq B, result_apply]
  simp only [ctx_eq _ _ _ _ _ hX hQ hK scale_real]
end Result

theorem algebraic : Cert.algebraic_KernelIdeal_ReferenceIdeal_pre_scores_finite_KernelIdeal (hKernelIdeal := Cert.KernelIdeal.Gen.facts)
    (hReferenceIdeal := Cert.ReferenceIdeal.Gen.facts) (hPre_scores_finite_KernelIdeal := Cert.Finite.facts_blocks) := by
  intro m g m' g' hpre hlay
  have B : Blocks (args m)
      (act (m' (((0 : Dev Cert.ReferenceIdeal.nD).tc : Thread Cert.ReferenceIdeal.nD Cert.ReferenceIdeal.τ).loc Cert.ReferenceIdeal.main_arg0)))
      (mat (m' (((0 : Dev Cert.ReferenceIdeal.nD).tc : Thread Cert.ReferenceIdeal.nD Cert.ReferenceIdeal.τ).loc Cert.ReferenceIdeal.main_arg1)))
      (mat (m' (((0 : Dev Cert.ReferenceIdeal.nD).tc : Thread Cert.ReferenceIdeal.nD Cert.ReferenceIdeal.τ).loc Cert.ReferenceIdeal.main_arg2)))
      (mat (m' (((0 : Dev Cert.ReferenceIdeal.nD).tc : Thread Cert.ReferenceIdeal.nD Cert.ReferenceIdeal.τ).loc Cert.ReferenceIdeal.main_arg3)))
      (mat (m' (((0 : Dev Cert.ReferenceIdeal.nD).tc : Thread Cert.ReferenceIdeal.nD Cert.ReferenceIdeal.τ).loc Cert.ReferenceIdeal.main_arg4))) :=
    { x := fun d r k => (congrFun (hlay d).1 _).trans (block_act d _ r k)
      wq := fun d k l => (congrFun (hlay d).2.1 _).trans (block_cols d _ k l)
      wk := fun d k l => (congrFun (hlay d).2.2.1 _).trans (block_cols d _ k l)
      wv := fun d k l => (congrFun (hlay d).2.2.2.1 _).trans (block_cols d _ k l)
      wo := fun d l n => (congrFun (hlay d).2.2.2.2 _).trans (block_rows d _ l n) }
  have hr := fun c => @Cert.Finite.real_of_pre Cert.Finite.facts_blocks _ _ _ _ _ (hpre c)
  refine ⟨Cert.ReferenceIdeal.Value.res_main_v34 m' 0, ?_, ?_⟩
  · refine (θ_run Cert.KernelIdeal.defs _ _).mono (fun r h c => ⟨(h c).1.trans ?_, (h c).2⟩) (run_value m g)
    rw [res_eq]
    exact out_block B (fun d => (hr d).1) (fun d => (hr d).2.1) (fun d => (hr d).2.2) c
  · exact (θ_run Cert.ReferenceIdeal.defs _ _).mono (fun r h => h 0) (Cert.ReferenceIdeal.Value.run (F := Ideal) m' g')

end Cert.Proof

end
-- ==== Proof.lean ====
/-
  The certificate: the frames of the three programs (Proof/Frames.lean), the idealized kernel as the kernel's own text
  read at `Ideal` (no operation was rewritten, so there is nothing to show of a rewrite), and the equality of the two
  programs' results on finite scores (Proof/Equal.lean).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Equal

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Finite.facts_blocks, Cert.Finite.facts_whole,
    frame_kernel, frame_kernelIdeal, frame_kernelIdeal_pre, frame_reference, frame_reference_pre, trivial, algebraic⟩

end Cert.Proof

end
